-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_input [hPre_plain_input : Cert.Pre_plain_input.Facts] (m : (ℓ : Loc Cert.KernelIdeal.nD Cert.KernelIdeal.τ Cert.KernelIdeal.sig) → Buf (Elt Ideal) ℓ) : Prop :=
  ∀ c : Dev Cert.KernelIdeal.nD,
    (Cert.Pre_plain_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_input [hPre_plain_input : Cert.Pre_plain_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_plain_input [hKernelIdeal : Cert.KernelIdeal.Facts] [hPre_plain_input : Cert.Pre_plain_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_input m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_plain_input [hReferenceIdeal : Cert.ReferenceIdeal.Facts] [hPre_plain_input : Cert.Pre_plain_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_plain_input [hKernelIdeal : Cert.KernelIdeal.Facts] [hReferenceIdeal : Cert.ReferenceIdeal.Facts] [hPre_plain_input : Cert.Pre_plain_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_v410) = v2 c
          ∧ r.2.mem ((c.tc : Thread Cert.ReferenceIdeal.nD Cert.ReferenceIdeal.τ).loc Cert.ReferenceIdeal.main_v419) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_plain_input : Cert.Pre_plain_input.Facts),
    quiescent_Kernel (hKernel := hKernel)
    ∧ quiescent_KernelIdeal (hKernelIdeal := hKernelIdeal)
    ∧ quiescent_KernelIdeal_pre_plain_input (hKernelIdeal := hKernelIdeal) (hPre_plain_input := hPre_plain_input)
    ∧ quiescent_ReferenceIdeal (hReferenceIdeal := hReferenceIdeal)
    ∧ quiescent_ReferenceIdeal_pre_plain_input (hReferenceIdeal := hReferenceIdeal) (hPre_plain_input := hPre_plain_input)
    ∧ preserves_Kernel_KernelIdeal
    ∧ algebraic_KernelIdeal_ReferenceIdeal_pre_plain_input (hKernelIdeal := hKernelIdeal) (hReferenceIdeal := hReferenceIdeal) (hPre_plain_input := hPre_plain_input)
-- ==== Pre_plain_input.lean ====
abbrev S32x128x2048 : Shape := ⟨3, ![32, 128, 2048]⟩
abbrev S32x1x2048 : Shape := ⟨3, ![32, 1, 2048]⟩
abbrev S32x2048 : Shape := ⟨2, ![32, 2048]⟩
abbrev S_ : Shape := ⟨0, ![]⟩
abbrev S32 : Shape := ⟨1, ![32]⟩

class Facts : Prop where
  slices_S32x128x2048_S32x1x2048_0_0_0 : S32x128x2048.Slices ![0, 0, 0] S32x1x2048
  shapeCasts_S32x1x2048_S32x2048 : S32x1x2048.ShapeCasts S32x2048
  reducesTo_S32x2048_S32_d1 : S32x2048.ReducesTo [1] S32
  h_S_ : 0 < S_.numel
  bcast_S_S32x128x2048 : S_.BroadcastsInDim S32x128x2048 (![] : Fin 0 → Fin S32x128x2048.rank)
  reducesTo_S32x128x2048_S_d0_1_2 : S32x128x2048.ReducesTo [0, 1, 2] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x128x2048 .f32) (main_arg1 : FVec F S32x128x2048 .f32) : IVec S_ 1 :=
  let main_v0 : FVec F S32x1x2048 .f32 := (extractStridedSlice S32x1x2048 ![0, 0, 0] · slices_S32x128x2048_S32x1x2048_0_0_0) main_arg0
  let main_v1 : FVec F S32x2048 .f32 := shapeCast S32x2048 main_v0 shapeCasts_S32x1x2048_S32x2048
  let main_cst : FVec F S_ .f32 := constant S_ .f32 0xFF800000#32
  let main_v2 : FVec F S32 .f32 := (fun x v => Host.reduce FloatOps.maximumf x v reducesTo_S32x2048_S32_d1 h_S_) main_v1 main_cst
  let main_cst_0 : FVec F S_ .f32 := constant S_ .f32 0x00000000#32
  let main_v3 : FVec F S32x128x2048 .f32 := broadcastInDim S32x128x2048 ![] bcast_S_S32x128x2048 main_cst_0
  let main_v4 : IVec S32x128x2048 1 := cmpf .oeq main_arg1 main_v3
  let main_c : IVec S_ 1 := constantI S_ 1 1#1
  let main_v5 : IVec S_ 1 := (fun x v => Host.reduce IntOp.andi x v reducesTo_S32x128x2048_S_d0_1_2 h_S_) main_v4 main_c
  let main_v6 : FVec F S32 .f32 := Host.absf main_v2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_c_2 : IVec S_ 1 := constantI S_ 1 1#1
  let main_v9 : IVec S_ 1 := (fun x v => Host.reduce IntOp.andi x v reducesTo_S32_S_d0 h_S_) main_v8 main_c_2
  let main_v10 : IVec S_ 1 := andi main_v5 main_v9
  main_v10
-- ==== Kernel.lean ====
abbrev S32x128x2048 : Shape := ⟨3, ![32, 128, 2048]⟩
abbrev S32x1x128 : Shape := ⟨3, ![32, 1, 128]⟩
abbrev S32x1x64 : Shape := ⟨3, ![32, 1, 64]⟩
abbrev S32x1x2048 : Shape := ⟨3, ![32, 1, 2048]⟩
abbrev S32x128 : Shape := ⟨2, ![32, 128]⟩
abbrev S4x128x2048 : Shape := ⟨3, ![4, 128, 2048]⟩
abbrev S4x1x128 : Shape := ⟨3, ![4, 1, 128]⟩
abbrev S4x1x64 : Shape := ⟨3, ![4, 1, 64]⟩
abbrev S4x1x2048 : Shape := ⟨3, ![4, 1, 2048]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S128x8 : Shape := ⟨2, ![128, 8]⟩
abbrev S128x4 : Shape := ⟨2, ![128, 4]⟩
abbrev S128x2 : Shape := ⟨2, ![128, 2]⟩
abbrev S1x128 : Shape := ⟨2, ![1, 128]⟩
abbrev S1x1x128 : Shape := ⟨3, ![1, 1, 128]⟩
abbrev S1x2048 : Shape := ⟨2, ![1, 2048]⟩
abbrev S1x1x2048 : Shape := ⟨3, ![1, 1, 2048]⟩
abbrev S64x2048 : Shape := ⟨2, ![64, 2048]⟩
abbrev S64 : Shape := ⟨1, ![64]⟩
abbrev S64x1 : Shape := ⟨2, ![64, 1]⟩
abbrev S64x64 : Shape := ⟨2, ![64, 64]⟩
abbrev S1x64 : Shape := ⟨2, ![1, 64]⟩
abbrev S1x1x64 : Shape := ⟨3, ![1, 1, 64]⟩
abbrev S32x2048 : Shape := ⟨2, ![32, 2048]⟩
abbrev S32x64 : Shape := ⟨2, ![32, 64]⟩
abbrev S32 : Shape := ⟨1, ![32]⟩
abbrev S32x1 : Shape := ⟨2, ![32, 1]⟩
abbrev S1x32x128 : Shape := ⟨3, ![1, 32, 128]⟩
abbrev S1 : Shape := ⟨1, ![1]⟩
abbrev S1x1x1 : Shape := ⟨3, ![1, 1, 1]⟩

abbrev nBuf : Space → Nat
  | .hbm => 11
  | .vmem => 21
  | .smem => 0
  | _ => 0

abbrev bufTy : (tb : Table) → Fin (tcTables nBuf tb) → BufTy
  | .hbm, ⟨0, _⟩ => ⟨S32x128x2048, .f32⟩
  | .hbm, ⟨1, _⟩ => ⟨S32x128x2048, .f32⟩
  | .hbm, ⟨2, _⟩ => ⟨S32x1x128, .i32⟩
  | .hbm, ⟨3, _⟩ => ⟨S32x1x128, .f32⟩
  | .hbm, ⟨4, _⟩ => ⟨S32x1x64, .i32⟩
  | .hbm, ⟨5, _⟩ => ⟨S32x1x64, .f32⟩
  | .hbm, ⟨6, _⟩ => ⟨S32x1x2048, .f32⟩
  | .hbm, ⟨7, _⟩ => ⟨S32x128, .i32⟩
  | .hbm, ⟨8, _⟩ => ⟨S32x128, .f32⟩
  | .hbm, ⟨9, _⟩ => ⟨S32x128, .f32⟩
  | .hbm, ⟨10, _⟩ => ⟨S32x128, .i32⟩
  | .local _ .vmem, ⟨0, _⟩ => ⟨S4x128x2048, .f32⟩
  | .local _ .vmem, ⟨1, _⟩ => ⟨S4x128x2048, .f32⟩
  | .local _ .vmem, ⟨2, _⟩ => ⟨S4x1x128, .i32⟩
  | .local _ .vmem, ⟨3, _⟩ => ⟨S4x1x128, .i32⟩
  | .local _ .vmem, ⟨4, _⟩ => ⟨S4x1x128, .f32⟩
  | .local _ .vmem, ⟨5, _⟩ => ⟨S4x1x128, .f32⟩
  | .local _ .vmem, ⟨6, _⟩ => ⟨S4x1x64, .i32⟩
  | .local _ .vmem, ⟨7, _⟩ => ⟨S4x1x64, .i32⟩
  | .local _ .vmem, ⟨8, _⟩ => ⟨S4x1x64, .f32⟩
  | .local _ .vmem, ⟨9, _⟩ => ⟨S4x1x64, .f32⟩
  | .local _ .vmem, ⟨10, _⟩ => ⟨S4x1x2048, .f32⟩
  | .local _ .vmem, ⟨11, _⟩ => ⟨S4x1x2048, .f32⟩
  | .local _ .vmem, ⟨12, _⟩ => ⟨S32x1x2048, .f32⟩
  | .local _ .vmem, ⟨13, _⟩ => ⟨S32x1x128, .f32⟩
  | .local _ .vmem, ⟨14, _⟩ => ⟨S32x1x64, .i32⟩
  | .local _ .vmem, ⟨15, _⟩ => ⟨S32x1x64, .f32⟩
  | .local _ .vmem, ⟨16, _⟩ => ⟨S32x1x128, .i32⟩
  | .local _ .vmem, ⟨17, _⟩ => ⟨S32x128, .i32⟩
  | .local _ .vmem, ⟨18, _⟩ => ⟨S32x128, .f32⟩
  | .local _ .vmem, ⟨19, _⟩ => ⟨S32x128, .f32⟩
  | .local _ .vmem, ⟨20, _⟩ => ⟨S32x128, .i32⟩
  | _, _ => ⟨S32x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v0_3 : Ref sig .tc := ⟨.hbm, 5, rfl⟩
abbrev main_call0_v0_4 : Ref sig .tc := ⟨.hbm, 6, rfl⟩
abbrev main_v0_0 : Ref sig .tc := ⟨.hbm, 7, rfl⟩
abbrev main_v0_1 : Ref sig .tc := ⟨.hbm, 8, rfl⟩
abbrev main_v0_3 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

@[reducible] def k1_t1_loop : Scf.Loop 32 :=
  let c0_i32_2 : BitVec 32 := 0#32
  let c64_i32 : BitVec 32 := 64#32
  let v6 : BitVec 32 := Scalar.addi c0_i32_2 c64_i32
  let c1_i32 : BitVec 32 := 1#32
  ⟨c0_i32_2, v6, c1_i32⟩
abbrev stage1_0 : Fin 1 → Memref sig .tc .vmem S32x1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x1x64 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x1x128 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S32x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S32x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S32x128 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S32x128x2048 : Shape := ⟨3, ![32, 128, 2048]⟩
abbrev S_ : Shape := ⟨0, ![]⟩
abbrev S32x128 : Shape := ⟨2, ![32, 128]⟩
abbrev S32x128x1 : Shape := ⟨3, ![32, 128, 1]⟩
abbrev S32x1x2048 : Shape := ⟨3, ![32, 1, 2048]⟩
abbrev S32x2048 : Shape := ⟨2, ![32, 2048]⟩
abbrev S32x64 : Shape := ⟨2, ![32, 64]⟩
abbrev S4194304 : Shape := ⟨1, ![4194304]⟩
abbrev S32x64x2048 : Shape := ⟨3, ![32, 64, 2048]⟩
abbrev S32x64x1 : Shape := ⟨3, ![32, 64, 1]⟩
abbrev S1 : Shape := ⟨1, ![1]⟩
abbrev S1x1x1 : Shape := ⟨3, ![1, 1, 1]⟩
abbrev S8388608 : Shape := ⟨1, ![8388608]⟩
abbrev S32x128x1x1 : Shape := ⟨4, ![32, 128, 1, 1]⟩
abbrev S1x1x1x1 : Shape := ⟨4, ![1, 1, 1, 1]⟩

abbrev nBuf : Space → Nat
  | .hbm => 602
  | .vmem => 0
  | .smem => 0
  | _ => 0

abbrev hbmTy0_0 (i : Nat) : BufTy := match i % 128 with
  | 0 => ⟨S32x128x2048, .f32⟩
  | 1 => ⟨S32x128x2048, .f32⟩
  | 2 => ⟨S32x128x2048, .f32⟩
  | 3 => ⟨S_, .f32⟩
  | 4 => ⟨S32x128, .f32⟩
  | 5 => ⟨S_, .f32⟩
  | 6 => ⟨S32x128, .f32⟩
  | 7 => ⟨S32x128, .f32⟩
  | 8 => ⟨S32x128x1, .f32⟩
  | 9 => ⟨S32x128x2048, .f32⟩
  | 10 => ⟨S32x128x2048, .f32⟩
  | 11 => ⟨S32x128x2048, .f32⟩
  | 12 => ⟨S_, .f32⟩
  | 13 => ⟨S32x128, .f32⟩
  | 14 => ⟨S32x128x1, .f32⟩
  | 15 => ⟨S32x128x2048, .f32⟩
  | 16 => ⟨S32x128x2048, .f32⟩
  | 17 => ⟨S32x1x2048, .f32⟩
  | 18 => ⟨S32x2048, .f32⟩
  | 19 => ⟨S32x64, .f32⟩
  | 20 => ⟨S32x64, .i32⟩
  | 21 => ⟨S4194304, .i32⟩
  | 22 => ⟨S32x64x2048, .i32⟩
  | 23 => ⟨S_, .i32⟩
  | 24 => ⟨S32x64x2048, .i32⟩
  | 25 => ⟨S_, .i32⟩
  | 26 => ⟨S32x64x2048, .i32⟩
  | 27 => ⟨S32x64x2048, .i32⟩
  | 28 => ⟨S_, .i32⟩
  | 29 => ⟨S32x64x2048, .i32⟩
  | 30 => ⟨S32x64x2048, .i32⟩
  | 31 => ⟨S32x64x2048, .i32⟩
  | 32 => ⟨S_, .i32⟩
  | 33 => ⟨S32x64x2048, .i32⟩
  | 34 => ⟨S32x64x2048, .i32⟩
  | 35 => ⟨S_, .i32⟩
  | 36 => ⟨S32x64x2048, .i32⟩
  | 37 => ⟨S32x64x2048, .i32⟩
  | 38 => ⟨S32x64x2048, .i32⟩
  | 39 => ⟨S32x64x2048, .i32⟩
  | 40 => ⟨S32x64x2048, .i32⟩
  | 41 => ⟨S_, .i32⟩
  | 42 => ⟨S32x64x2048, .i32⟩
  | 43 => ⟨S32x64x2048, .i32⟩
  | 44 => ⟨S_, .i32⟩
  | 45 => ⟨S32x64x2048, .i32⟩
  | 46 => ⟨S32x64x2048, .i32⟩
  | 47 => ⟨S32x64x2048, .i32⟩
  | 48 => ⟨S32x64x2048, .i32⟩
  | 49 => ⟨S32x64x2048, .i32⟩
  | 50 => ⟨S_, .i32⟩
  | 51 => ⟨S32x64x2048, .i32⟩
  | 52 => ⟨S32x64x2048, .i32⟩
  | 53 => ⟨S_, .i32⟩
  | 54 => ⟨S32x64x2048, .i32⟩
  | 55 => ⟨S32x64x2048, .i32⟩
  | 56 => ⟨S32x64x2048, .i32⟩
  | 57 => ⟨S32x64x2048, .i32⟩
  | 58 => ⟨S32x64x2048, .i32⟩
  | 59 => ⟨S_, .i32⟩
  | 60 => ⟨S32x64x2048, .i32⟩
  | 61 => ⟨S32x64x2048, .i32⟩
  | 62 => ⟨S_, .i32⟩
  | 63 => ⟨S32x64x2048, .i32⟩
  | 64 => ⟨S32x64x2048, .i32⟩
  | 65 => ⟨S32x64x2048, .i32⟩
  | 66 => ⟨S32x64x2048, .i32⟩
  | 67 => ⟨S_, .i32⟩
  | 68 => ⟨S32x64x2048, .i32⟩
  | 69 => ⟨S32x64x2048, .i32⟩
  | 70 => ⟨S_, .i32⟩
  | 71 => ⟨S32x64x2048, .i32⟩
  | 72 => ⟨S32x64x2048, .i32⟩
  | 73 => ⟨S_, .i32⟩
  | 74 => ⟨S32x64x2048, .i32⟩
  | 75 => ⟨S32x64x2048, .i32⟩
  | 76 => ⟨S32x64x2048, .i32⟩
  | 77 => ⟨S_, .i32⟩
  | 78 => ⟨S32x64x2048, .i32⟩
  | 79 => ⟨S32x64x2048, .i32⟩
  | 80 => ⟨S_, .i32⟩
  | 81 => ⟨S32x64x2048, .i32⟩
  | 82 => ⟨S32x64x2048, .i32⟩
  | 83 => ⟨S32x64x2048, .i32⟩
  | 84 => ⟨S32x64x2048, .i32⟩
  | 85 => ⟨S32x64x2048, .i32⟩
  | 86 => ⟨S_, .i32⟩
  | 87 => ⟨S32x64x2048, .i32⟩
  | 88 => ⟨S32x64x2048, .i32⟩
  | 89 => ⟨S_, .i32⟩
  | 90 => ⟨S32x64x2048, .i32⟩
  | 91 => ⟨S32x64x2048, .i32⟩
  | 92 => ⟨S32x64x2048, .i32⟩
  | 93 => ⟨S32x64x2048, .i32⟩
  | 94 => ⟨S32x64x2048, .i32⟩
  | 95 => ⟨S_, .i32⟩
  | 96 => ⟨S32x64x2048, .i32⟩
  | 97 => ⟨S32x64x2048, .i32⟩
  | 98 => ⟨S_, .i32⟩
  | 99 => ⟨S32x64x2048, .i32⟩
  | 100 => ⟨S32x64x2048, .i32⟩
  | 101 => ⟨S32x64x2048, .i32⟩
  | 102 => ⟨S32x64x2048, .i32⟩
  | 103 => ⟨S32x64x2048, .i32⟩
  | 104 => ⟨S_, .i32⟩
  | 105 => ⟨S32x64x2048, .i32⟩
  | 106 => ⟨S32x64x2048, .i32⟩
  | 107 => ⟨S_, .i32⟩
  | 108 => ⟨S32x64x2048, .i32⟩
  | 109 => ⟨S32x64x2048, .i32⟩
  | 110 => ⟨S32x64x2048, .i32⟩
  | 111 => ⟨S32x64x2048, .i32⟩
  | 112 => ⟨S_, .i32⟩
  | 113 => ⟨S32x64x2048, .i32⟩
  | 114 => ⟨S32x64x2048, .i32⟩
  | 115 => ⟨S_, .i32⟩
  | 116 => ⟨S32x64x2048, .i32⟩
  | 117 => ⟨S32x64x2048, .i32⟩
  | 118 => ⟨S_, .i32⟩
  | 119 => ⟨S32x64x2048, .i32⟩
  | 120 => ⟨S32x64x2048, .i32⟩
  | 121 => ⟨S32x64x2048, .i32⟩
  | 122 => ⟨S_, .i32⟩
  | 123 => ⟨S32x64x2048, .i32⟩
  | 124 => ⟨S32x64x2048, .i32⟩
  | 125 => ⟨S_, .i32⟩
  | 126 => ⟨S32x64x2048, .i32⟩
  | 127 => ⟨S32x64x2048, .i32⟩
  | _ => ⟨S32x128x2048, .f32⟩

abbrev hbmTy0_1 (i : Nat) : BufTy := match i % 128 with
  | 0 => ⟨S32x64x2048, .i32⟩
  | 1 => ⟨S32x64x2048, .i32⟩
  | 2 => ⟨S32x64x2048, .i32⟩
  | 3 => ⟨S_, .i32⟩
  | 4 => ⟨S32x64x2048, .i32⟩
  | 5 => ⟨S32x64x2048, .i32⟩
  | 6 => ⟨S_, .i32⟩
  | 7 => ⟨S32x64x2048, .i32⟩
  | 8 => ⟨S32x64x2048, .i32⟩
  | 9 => ⟨S32x64x2048, .i32⟩
  | 10 => ⟨S32x64x2048, .i32⟩
  | 11 => ⟨S32x64x2048, .i32⟩
  | 12 => ⟨S_, .i32⟩
  | 13 => ⟨S32x64x2048, .i32⟩
  | 14 => ⟨S32x64x2048, .i32⟩
  | 15 => ⟨S_, .i32⟩
  | 16 => ⟨S32x64x2048, .i32⟩
  | 17 => ⟨S32x64x2048, .i32⟩
  | 18 => ⟨S32x64x2048, .i32⟩
  | 19 => ⟨S32x64x2048, .i32⟩
  | 20 => ⟨S32x64x2048, .i32⟩
  | 21 => ⟨S_, .i32⟩
  | 22 => ⟨S32x64x2048, .i32⟩
  | 23 => ⟨S32x64x2048, .i32⟩
  | 24 => ⟨S_, .i32⟩
  | 25 => ⟨S32x64x2048, .i32⟩
  | 26 => ⟨S32x64x2048, .i32⟩
  | 27 => ⟨S32x64x2048, .i32⟩
  | 28 => ⟨S32x64x2048, .i32⟩
  | 29 => ⟨S_, .i32⟩
  | 30 => ⟨S32x64x2048, .i32⟩
  | 31 => ⟨S32x64x2048, .i32⟩
  | 32 => ⟨S_, .i32⟩
  | 33 => ⟨S32x64x2048, .i32⟩
  | 34 => ⟨S32x64x2048, .i32⟩
  | 35 => ⟨S_, .i32⟩
  | 36 => ⟨S32x64x2048, .i32⟩
  | 37 => ⟨S32x64x2048, .i32⟩
  | 38 => ⟨S32x64x2048, .i32⟩
  | 39 => ⟨S_, .i32⟩
  | 40 => ⟨S32x64x2048, .i32⟩
  | 41 => ⟨S32x64x2048, .i32⟩
  | 42 => ⟨S_, .i32⟩
  | 43 => ⟨S32x64x2048, .i32⟩
  | 44 => ⟨S32x64x2048, .i32⟩
  | 45 => ⟨S32x64x2048, .i32⟩
  | 46 => ⟨S32x64x2048, .i32⟩
  | 47 => ⟨S32x64x2048, .i32⟩
  | 48 => ⟨S_, .i32⟩
  | 49 => ⟨S32x64x2048, .i32⟩
  | 50 => ⟨S32x64x2048, .i32⟩
  | 51 => ⟨S_, .i32⟩
  | 52 => ⟨S32x64x2048, .i32⟩
  | 53 => ⟨S32x64x2048, .i32⟩
  | 54 => ⟨S32x64x2048, .i32⟩
  | 55 => ⟨S32x64x2048, .i32⟩
  | 56 => ⟨S32x64x2048, .i32⟩
  | 57 => ⟨S_, .i32⟩
  | 58 => ⟨S32x64x2048, .i32⟩
  | 59 => ⟨S32x64x2048, .i32⟩
  | 60 => ⟨S_, .i32⟩
  | 61 => ⟨S32x64x2048, .i32⟩
  | 62 => ⟨S32x64x2048, .i32⟩
  | 63 => ⟨S32x64x2048, .i32⟩
  | 64 => ⟨S32x64x2048, .i32⟩
  | 65 => ⟨S32x64x2048, .i32⟩
  | 66 => ⟨S_, .i32⟩
  | 67 => ⟨S32x64x2048, .i32⟩
  | 68 => ⟨S32x64x2048, .i32⟩
  | 69 => ⟨S_, .i32⟩
  | 70 => ⟨S32x64x2048, .i32⟩
  | 71 => ⟨S32x64x2048, .i32⟩
  | 72 => ⟨S32x64x2048, .i32⟩
  | 73 => ⟨S32x64x2048, .i32⟩
  | 74 => ⟨S_, .i32⟩
  | 75 => ⟨S32x64x2048, .i32⟩
  | 76 => ⟨S32x64x2048, .i32⟩
  | 77 => ⟨S_, .i32⟩
  | 78 => ⟨S32x64x2048, .i32⟩
  | 79 => ⟨S32x64x2048, .i32⟩
  | 80 => ⟨S_, .i32⟩
  | 81 => ⟨S32x64x2048, .i32⟩
  | 82 => ⟨S32x64x2048, .i32⟩
  | 83 => ⟨S32x64x2048, .i32⟩
  | 84 => ⟨S_, .i32⟩
  | 85 => ⟨S32x64x2048, .i32⟩
  | 86 => ⟨S32x64x2048, .i32⟩
  | 87 => ⟨S_, .i32⟩
  | 88 => ⟨S32x64x2048, .i32⟩
  | 89 => ⟨S32x64x2048, .i32⟩
  | 90 => ⟨S32x64x2048, .i32⟩
  | 91 => ⟨S32x64x2048, .i32⟩
  | 92 => ⟨S32x64x2048, .i32⟩
  | 93 => ⟨S_, .i32⟩
  | 94 => ⟨S32x64x2048, .i32⟩
  | 95 => ⟨S32x64x2048, .i32⟩
  | 96 => ⟨S_, .i32⟩
  | 97 => ⟨S32x64x2048, .i32⟩
  | 98 => ⟨S32x64x2048, .i32⟩
  | 99 => ⟨S32x64x2048, .i32⟩
  | 100 => ⟨S32x64x2048, .i32⟩
  | 101 => ⟨S32x64x2048, .i32⟩
  | 102 => ⟨S_, .i32⟩
  | 103 => ⟨S32x64x2048, .i32⟩
  | 104 => ⟨S32x64x2048, .i32⟩
  | 105 => ⟨S_, .i32⟩
  | 106 => ⟨S32x64x2048, .i32⟩
  | 107 => ⟨S32x64x2048, .i32⟩
  | 108 => ⟨S32x64x2048, .i32⟩
  | 109 => ⟨S32x64x2048, .i32⟩
  | 110 => ⟨S32x64x2048, .i32⟩
  | 111 => ⟨S_, .i32⟩
  | 112 => ⟨S32x64x2048, .i32⟩
  | 113 => ⟨S32x64x2048, .i32⟩
  | 114 => ⟨S_, .i32⟩
  | 115 => ⟨S32x64x2048, .i32⟩
  | 116 => ⟨S32x64x2048, .i32⟩
  | 117 => ⟨S32x64x2048, .i32⟩
  | 118 => ⟨S32x64x2048, .i32⟩
  | 119 => ⟨S_, .i32⟩
  | 120 => ⟨S32x64x2048, .i32⟩
  | 121 => ⟨S32x64x2048, .i32⟩
  | 122 => ⟨S_, .i32⟩
  | 123 => ⟨S32x64x2048, .i32⟩
  | 124 => ⟨S32x64x2048, .i32⟩
  | 125 => ⟨S_, .i32⟩
  | 126 => ⟨S32x64x2048, .i32⟩
  | 127 => ⟨S32x64x2048, .i32⟩
  | _ => ⟨S32x128x2048, .f32⟩

abbrev hbmTy0_2 (i : Nat) : BufTy := match i % 128 with
  | 0 => ⟨S32x64x2048, .i32⟩
  | 1 => ⟨S_, .i32⟩
  | 2 => ⟨S32x64x2048, .i32⟩
  | 3 => ⟨S32x64x2048, .i32⟩
  | 4 => ⟨S_, .i32⟩
  | 5 => ⟨S32x64x2048, .i32⟩
  | 6 => ⟨S32x64x2048, .i32⟩
  | 7 => ⟨S32x64x2048, .f32⟩
  | 8 => ⟨S_, .f32⟩
  | 9 => ⟨S32x64x2048, .f32⟩
  | 10 => ⟨S32x64x2048, .f32⟩
  | 11 => ⟨S_, .f32⟩
  | 12 => ⟨S32x64x2048, .f32⟩
  | 13 => ⟨S32x64x2048, .f32⟩
  | 14 => ⟨S32x64x2048, .f32⟩
  | 15 => ⟨S32x64x2048, .f32⟩
  | 16 => ⟨S32x64x2048, .f32⟩
  | 17 => ⟨S32x64x2048, .f32⟩
  | 18 => ⟨S_, .f32⟩
  | 19 => ⟨S32x2048, .f32⟩
  | 20 => ⟨S32x2048, .f32⟩
  | 21 => ⟨S32x2048, .f32⟩
  | 22 => ⟨S32x1x2048, .f32⟩
  | 23 => ⟨S32x64x2048, .f32⟩
  | 24 => ⟨S32x64x2048, .f32⟩
  | 25 => ⟨S32x64x1, .f32⟩
  | 26 => ⟨S32x64x1, .i32⟩
  | 27 => ⟨S32x64, .i32⟩
  | 28 => ⟨S_, .i32⟩
  | 29 => ⟨S32x64, .i32⟩
  | 30 => ⟨S32x64, .i1⟩
  | 31 => ⟨S_, .i32⟩
  | 32 => ⟨S32x64, .i32⟩
  | 33 => ⟨S32x64, .i32⟩
  | 34 => ⟨S32x64, .i32⟩
  | 35 => ⟨S32x64x1, .i32⟩
  | 36 => ⟨S1, .i32⟩
  | 37 => ⟨S_, .i32⟩
  | 38 => ⟨S32x64x1, .i32⟩
  | 39 => ⟨S32x64x1, .i1⟩
  | 40 => ⟨S1x1x1, .i32⟩
  | 41 => ⟨S32x64x1, .i32⟩
  | 42 => ⟨S32x64x1, .i1⟩
  | 43 => ⟨S32x64x1, .i1⟩
  | 44 => ⟨S_, .i1⟩
  | 45 => ⟨S32x64, .i1⟩
  | 46 => ⟨S32x64, .f32⟩
  | 47 => ⟨S_, .f32⟩
  | 48 => ⟨S32x64, .f32⟩
  | 49 => ⟨S32x64, .f32⟩
  | 50 => ⟨S32x128, .i32⟩
  | 51 => ⟨S32x128, .f32⟩
  | 52 => ⟨S8388608, .i32⟩
  | 53 => ⟨S32x128x2048, .i32⟩
  | 54 => ⟨S_, .i32⟩
  | 55 => ⟨S32x128x2048, .i32⟩
  | 56 => ⟨S_, .i32⟩
  | 57 => ⟨S32x128x2048, .i32⟩
  | 58 => ⟨S32x128x2048, .i32⟩
  | 59 => ⟨S_, .i32⟩
  | 60 => ⟨S32x128x2048, .i32⟩
  | 61 => ⟨S32x128x2048, .i32⟩
  | 62 => ⟨S32x128x2048, .i32⟩
  | 63 => ⟨S_, .i32⟩
  | 64 => ⟨S32x128x2048, .i32⟩
  | 65 => ⟨S32x128x2048, .i32⟩
  | 66 => ⟨S_, .i32⟩
  | 67 => ⟨S32x128x2048, .i32⟩
  | 68 => ⟨S32x128x2048, .i32⟩
  | 69 => ⟨S32x128x2048, .i32⟩
  | 70 => ⟨S32x128x2048, .i32⟩
  | 71 => ⟨S32x128x2048, .i32⟩
  | 72 => ⟨S_, .i32⟩
  | 73 => ⟨S32x128x2048, .i32⟩
  | 74 => ⟨S32x128x2048, .i32⟩
  | 75 => ⟨S_, .i32⟩
  | 76 => ⟨S32x128x2048, .i32⟩
  | 77 => ⟨S32x128x2048, .i32⟩
  | 78 => ⟨S32x128x2048, .i32⟩
  | 79 => ⟨S32x128x2048, .i32⟩
  | 80 => ⟨S32x128x2048, .i32⟩
  | 81 => ⟨S_, .i32⟩
  | 82 => ⟨S32x128x2048, .i32⟩
  | 83 => ⟨S32x128x2048, .i32⟩
  | 84 => ⟨S_, .i32⟩
  | 85 => ⟨S32x128x2048, .i32⟩
  | 86 => ⟨S32x128x2048, .i32⟩
  | 87 => ⟨S32x128x2048, .i32⟩
  | 88 => ⟨S32x128x2048, .i32⟩
  | 89 => ⟨S32x128x2048, .i32⟩
  | 90 => ⟨S_, .i32⟩
  | 91 => ⟨S32x128x2048, .i32⟩
  | 92 => ⟨S32x128x2048, .i32⟩
  | 93 => ⟨S_, .i32⟩
  | 94 => ⟨S32x128x2048, .i32⟩
  | 95 => ⟨S32x128x2048, .i32⟩
  | 96 => ⟨S32x128x2048, .i32⟩
  | 97 => ⟨S32x128x2048, .i32⟩
  | 98 => ⟨S_, .i32⟩
  | 99 => ⟨S32x128x2048, .i32⟩
  | 100 => ⟨S32x128x2048, .i32⟩
  | 101 => ⟨S_, .i32⟩
  | 102 => ⟨S32x128x2048, .i32⟩
  | 103 => ⟨S32x128x2048, .i32⟩
  | 104 => ⟨S_, .i32⟩
  | 105 => ⟨S32x128x2048, .i32⟩
  | 106 => ⟨S32x128x2048, .i32⟩
  | 107 => ⟨S32x128x2048, .i32⟩
  | 108 => ⟨S_, .i32⟩
  | 109 => ⟨S32x128x2048, .i32⟩
  | 110 => ⟨S32x128x2048, .i32⟩
  | 111 => ⟨S_, .i32⟩
  | 112 => ⟨S32x128x2048, .i32⟩
  | 113 => ⟨S32x128x2048, .i32⟩
  | 114 => ⟨S32x128x2048, .i32⟩
  | 115 => ⟨S32x128x2048, .i32⟩
  | 116 => ⟨S32x128x2048, .i32⟩
  | 117 => ⟨S_, .i32⟩
  | 118 => ⟨S32x128x2048, .i32⟩
  | 119 => ⟨S32x128x2048, .i32⟩
  | 120 => ⟨S_, .i32⟩
  | 121 => ⟨S32x128x2048, .i32⟩
  | 122 => ⟨S32x128x2048, .i32⟩
  | 123 => ⟨S32x128x2048, .i32⟩
  | 124 => ⟨S32x128x2048, .i32⟩
  | 125 => ⟨S32x128x2048, .i32⟩
  | 126 => ⟨S_, .i32⟩
  | 127 => ⟨S32x128x2048, .i32⟩
  | _ => ⟨S32x128x2048, .f32⟩

abbrev hbmTy0_3 (i : Nat) : BufTy := match i % 128 with
  | 0 => ⟨S32x128x2048, .i32⟩
  | 1 => ⟨S_, .i32⟩
  | 2 => ⟨S32x128x2048, .i32⟩
  | 3 => ⟨S32x128x2048, .i32⟩
  | 4 => ⟨S32x128x2048, .i32⟩
  | 5 => ⟨S32x128x2048, .i32⟩
  | 6 => ⟨S32x128x2048, .i32⟩
  | 7 => ⟨S_, .i32⟩
  | 8 => ⟨S32x128x2048, .i32⟩
  | 9 => ⟨S32x128x2048, .i32⟩
  | 10 => ⟨S_, .i32⟩
  | 11 => ⟨S32x128x2048, .i32⟩
  | 12 => ⟨S32x128x2048, .i32⟩
  | 13 => ⟨S32x128x2048, .i32⟩
  | 14 => ⟨S32x128x2048, .i32⟩
  | 15 => ⟨S_, .i32⟩
  | 16 => ⟨S32x128x2048, .i32⟩
  | 17 => ⟨S32x128x2048, .i32⟩
  | 18 => ⟨S_, .i32⟩
  | 19 => ⟨S32x128x2048, .i32⟩
  | 20 => ⟨S32x128x2048, .i32⟩
  | 21 => ⟨S_, .i32⟩
  | 22 => ⟨S32x128x2048, .i32⟩
  | 23 => ⟨S32x128x2048, .i32⟩
  | 24 => ⟨S32x128x2048, .i32⟩
  | 25 => ⟨S_, .i32⟩
  | 26 => ⟨S32x128x2048, .i32⟩
  | 27 => ⟨S32x128x2048, .i32⟩
  | 28 => ⟨S_, .i32⟩
  | 29 => ⟨S32x128x2048, .i32⟩
  | 30 => ⟨S32x128x2048, .i32⟩
  | 31 => ⟨S32x128x2048, .i32⟩
  | 32 => ⟨S32x128x2048, .i32⟩
  | 33 => ⟨S32x128x2048, .i32⟩
  | 34 => ⟨S_, .i32⟩
  | 35 => ⟨S32x128x2048, .i32⟩
  | 36 => ⟨S32x128x2048, .i32⟩
  | 37 => ⟨S_, .i32⟩
  | 38 => ⟨S32x128x2048, .i32⟩
  | 39 => ⟨S32x128x2048, .i32⟩
  | 40 => ⟨S32x128x2048, .i32⟩
  | 41 => ⟨S32x128x2048, .i32⟩
  | 42 => ⟨S32x128x2048, .i32⟩
  | 43 => ⟨S_, .i32⟩
  | 44 => ⟨S32x128x2048, .i32⟩
  | 45 => ⟨S32x128x2048, .i32⟩
  | 46 => ⟨S_, .i32⟩
  | 47 => ⟨S32x128x2048, .i32⟩
  | 48 => ⟨S32x128x2048, .i32⟩
  | 49 => ⟨S32x128x2048, .i32⟩
  | 50 => ⟨S32x128x2048, .i32⟩
  | 51 => ⟨S32x128x2048, .i32⟩
  | 52 => ⟨S_, .i32⟩
  | 53 => ⟨S32x128x2048, .i32⟩
  | 54 => ⟨S32x128x2048, .i32⟩
  | 55 => ⟨S_, .i32⟩
  | 56 => ⟨S32x128x2048, .i32⟩
  | 57 => ⟨S32x128x2048, .i32⟩
  | 58 => ⟨S32x128x2048, .i32⟩
  | 59 => ⟨S32x128x2048, .i32⟩
  | 60 => ⟨S_, .i32⟩
  | 61 => ⟨S32x128x2048, .i32⟩
  | 62 => ⟨S32x128x2048, .i32⟩
  | 63 => ⟨S_, .i32⟩
  | 64 => ⟨S32x128x2048, .i32⟩
  | 65 => ⟨S32x128x2048, .i32⟩
  | 66 => ⟨S_, .i32⟩
  | 67 => ⟨S32x128x2048, .i32⟩
  | 68 => ⟨S32x128x2048, .i32⟩
  | 69 => ⟨S32x128x2048, .i32⟩
  | 70 => ⟨S_, .i32⟩
  | 71 => ⟨S32x128x2048, .i32⟩
  | 72 => ⟨S32x128x2048, .i32⟩
  | 73 => ⟨S_, .i32⟩
  | 74 => ⟨S32x128x2048, .i32⟩
  | 75 => ⟨S32x128x2048, .i32⟩
  | 76 => ⟨S32x128x2048, .i32⟩
  | 77 => ⟨S32x128x2048, .i32⟩
  | 78 => ⟨S32x128x2048, .i32⟩
  | 79 => ⟨S_, .i32⟩
  | 80 => ⟨S32x128x2048, .i32⟩
  | 81 => ⟨S32x128x2048, .i32⟩
  | 82 => ⟨S_, .i32⟩
  | 83 => ⟨S32x128x2048, .i32⟩
  | 84 => ⟨S32x128x2048, .i32⟩
  | 85 => ⟨S32x128x2048, .i32⟩
  | 86 => ⟨S32x128x2048, .i32⟩
  | 87 => ⟨S32x128x2048, .i32⟩
  | 88 => ⟨S_, .i32⟩
  | 89 => ⟨S32x128x2048, .i32⟩
  | 90 => ⟨S32x128x2048, .i32⟩
  | 91 => ⟨S_, .i32⟩
  | 92 => ⟨S32x128x2048, .i32⟩
  | 93 => ⟨S32x128x2048, .i32⟩
  | 94 => ⟨S32x128x2048, .i32⟩
  | 95 => ⟨S32x128x2048, .i32⟩
  | 96 => ⟨S32x128x2048, .i32⟩
  | 97 => ⟨S_, .i32⟩
  | 98 => ⟨S32x128x2048, .i32⟩
  | 99 => ⟨S32x128x2048, .i32⟩
  | 100 => ⟨S_, .i32⟩
  | 101 => ⟨S32x128x2048, .i32⟩
  | 102 => ⟨S32x128x2048, .i32⟩
  | 103 => ⟨S32x128x2048, .i32⟩
  | 104 => ⟨S32x128x2048, .i32⟩
  | 105 => ⟨S_, .i32⟩
  | 106 => ⟨S32x128x2048, .i32⟩
  | 107 => ⟨S32x128x2048, .i32⟩
  | 108 => ⟨S_, .i32⟩
  | 109 => ⟨S32x128x2048, .i32⟩
  | 110 => ⟨S32x128x2048, .i32⟩
  | 111 => ⟨S_, .i32⟩
  | 112 => ⟨S32x128x2048, .i32⟩
  | 113 => ⟨S32x128x2048, .i32⟩
  | 114 => ⟨S32x128x2048, .i32⟩
  | 115 => ⟨S_, .i32⟩
  | 116 => ⟨S32x128x2048, .i32⟩
  | 117 => ⟨S32x128x2048, .i32⟩
  | 118 => ⟨S_, .i32⟩
  | 119 => ⟨S32x128x2048, .i32⟩
  | 120 => ⟨S32x128x2048, .i32⟩
  | 121 => ⟨S32x128x2048, .i32⟩
  | 122 => ⟨S32x128x2048, .i32⟩
  | 123 => ⟨S32x128x2048, .i32⟩
  | 124 => ⟨S_, .i32⟩
  | 125 => ⟨S32x128x2048, .i32⟩
  | 126 => ⟨S32x128x2048, .i32⟩
  | 127 => ⟨S_, .i32⟩
  | _ => ⟨S32x128x2048, .f32⟩

abbrev hbmTy0_4 (i : Nat) : BufTy := match i % 128 with
  | 0 => ⟨S32x128x2048, .i32⟩
  | 1 => ⟨S32x128x2048, .i32⟩
  | 2 => ⟨S32x128x2048, .i32⟩
  | 3 => ⟨S32x128x2048, .i32⟩
  | 4 => ⟨S32x128x2048, .i32⟩
  | 5 => ⟨S_, .i32⟩
  | 6 => ⟨S32x128x2048, .i32⟩
  | 7 => ⟨S32x128x2048, .i32⟩
  | 8 => ⟨S_, .i32⟩
  | 9 => ⟨S32x128x2048, .i32⟩
  | 10 => ⟨S32x128x2048, .i32⟩
  | 11 => ⟨S32x128x2048, .i32⟩
  | 12 => ⟨S32x128x2048, .i32⟩
  | 13 => ⟨S32x128x2048, .i32⟩
  | 14 => ⟨S_, .i32⟩
  | 15 => ⟨S32x128x2048, .i32⟩
  | 16 => ⟨S32x128x2048, .i32⟩
  | 17 => ⟨S_, .i32⟩
  | 18 => ⟨S32x128x2048, .i32⟩
  | 19 => ⟨S32x128x2048, .i32⟩
  | 20 => ⟨S32x128x2048, .i32⟩
  | 21 => ⟨S32x128x2048, .i32⟩
  | 22 => ⟨S_, .i32⟩
  | 23 => ⟨S32x128x2048, .i32⟩
  | 24 => ⟨S32x128x2048, .i32⟩
  | 25 => ⟨S_, .i32⟩
  | 26 => ⟨S32x128x2048, .i32⟩
  | 27 => ⟨S32x128x2048, .i32⟩
  | 28 => ⟨S_, .i32⟩
  | 29 => ⟨S32x128x2048, .i32⟩
  | 30 => ⟨S32x128x2048, .i32⟩
  | 31 => ⟨S32x128x2048, .i32⟩
  | 32 => ⟨S_, .i32⟩
  | 33 => ⟨S32x128x2048, .i32⟩
  | 34 => ⟨S32x128x2048, .i32⟩
  | 35 => ⟨S_, .i32⟩
  | 36 => ⟨S32x128x2048, .i32⟩
  | 37 => ⟨S32x128x2048, .i32⟩
  | 38 => ⟨S32x128x2048, .f32⟩
  | 39 => ⟨S_, .f32⟩
  | 40 => ⟨S32x128x2048, .f32⟩
  | 41 => ⟨S32x128x2048, .f32⟩
  | 42 => ⟨S_, .f32⟩
  | 43 => ⟨S32x128x2048, .f32⟩
  | 44 => ⟨S32x128x2048, .f32⟩
  | 45 => ⟨S32x128x2048, .f32⟩
  | 46 => ⟨S32x128x2048, .f32⟩
  | 47 => ⟨S32x128x2048, .f32⟩
  | 48 => ⟨S32x128x2048, .f32⟩
  | 49 => ⟨S_, .f32⟩
  | 50 => ⟨S32x128x2048, .f32⟩
  | 51 => ⟨S32x128x2048, .f32⟩
  | 52 => ⟨S32x128x2048, .f32⟩
  | 53 => ⟨S32x128x2048, .f32⟩
  | 54 => ⟨S32x128x1, .f32⟩
  | 55 => ⟨S32x128x1, .i32⟩
  | 56 => ⟨S32x128, .i32⟩
  | 57 => ⟨S32x128x1, .i32⟩
  | 58 => ⟨S_, .i32⟩
  | 59 => ⟨S32x128x1, .i32⟩
  | 60 => ⟨S32x128x1, .i1⟩
  | 61 => ⟨S_, .i32⟩
  | 62 => ⟨S32x128x1, .i32⟩
  | 63 => ⟨S32x128x1, .i32⟩
  | 64 => ⟨S32x128x1, .i32⟩
  | 65 => ⟨S32x128x1x1, .i32⟩
  | 66 => ⟨S1, .i32⟩
  | 67 => ⟨S_, .i32⟩
  | 68 => ⟨S32x128x1x1, .i32⟩
  | 69 => ⟨S32x128x1x1, .i1⟩
  | 70 => ⟨S1x1x1x1, .i32⟩
  | 71 => ⟨S32x128x1x1, .i32⟩
  | 72 => ⟨S32x128x1x1, .i1⟩
  | 73 => ⟨S32x128x1x1, .i1⟩
  | 74 => ⟨S_, .i1⟩
  | 75 => ⟨S32x128x1, .i1⟩
  | 76 => ⟨S32x128x1, .f32⟩
  | 77 => ⟨S_, .f32⟩
  | 78 => ⟨S32x128x1, .f32⟩
  | 79 => ⟨S32x128x1, .f32⟩
  | 80 => ⟨S32x128, .f32⟩
  | 81 => ⟨S_, .f32⟩
  | 82 => ⟨S32x128, .f32⟩
  | 83 => ⟨S32x128, .i1⟩
  | 84 => ⟨S_, .i1⟩
  | 85 => ⟨S_, .i1⟩
  | 86 => ⟨S_, .f32⟩
  | 87 => ⟨S32x128, .f32⟩
  | 88 => ⟨S32x128, .f32⟩
  | 89 => ⟨S32x128, .f32⟩
  | _ => ⟨S32x128x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x128x2048, .f32⟩

abbrev bufTy : (tb : Table) → Fin (tcTables nBuf tb) → BufTy
  | .hbm, ⟨i, _⟩ => hbmTy i
  | _, _ => ⟨S32x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_c_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_12 : Ref sig .tc := ⟨.hbm, 67, rfl⟩
abbrev main_v49 : Ref sig .tc := ⟨.hbm, 68, rfl⟩
abbrev main_v50 : Ref sig .tc := ⟨.hbm, 69, rfl⟩
abbrev main_c_13 : Ref sig .tc := ⟨.hbm, 70, rfl⟩
abbrev main_v51 : Ref sig .tc := ⟨.hbm, 71, rfl⟩
abbrev main_v52 : Ref sig .tc := ⟨.hbm, 72, rfl⟩
abbrev main_c_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_15 : Ref sig .tc := ⟨.hbm, 77, rfl⟩
abbrev main_v56 : Ref sig .tc := ⟨.hbm, 78, rfl⟩
abbrev main_v57 : Ref sig .tc := ⟨.hbm, 79, rfl⟩
abbrev main_c_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_17 : Ref sig .tc := ⟨.hbm, 86, rfl⟩
abbrev main_v63 : Ref sig .tc := ⟨.hbm, 87, rfl⟩
abbrev main_v64 : Ref sig .tc := ⟨.hbm, 88, rfl⟩
abbrev main_c_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_19 : Ref sig .tc := ⟨.hbm, 95, rfl⟩
abbrev main_v70 : Ref sig .tc := ⟨.hbm, 96, rfl⟩
abbrev main_v71 : Ref sig .tc := ⟨.hbm, 97, rfl⟩
abbrev main_c_20 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_21 : Ref sig .tc := ⟨.hbm, 104, rfl⟩
abbrev main_v77 : Ref sig .tc := ⟨.hbm, 105, rfl⟩
abbrev main_v78 : Ref sig .tc := ⟨.hbm, 106, rfl⟩
abbrev main_c_22 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_23 : Ref sig .tc := ⟨.hbm, 112, rfl⟩
abbrev main_v83 : Ref sig .tc := ⟨.hbm, 113, rfl⟩
abbrev main_v84 : Ref sig .tc := ⟨.hbm, 114, rfl⟩
abbrev main_c_24 : Ref sig .tc := ⟨.hbm, 115, rfl⟩
abbrev main_v85 : Ref sig .tc := ⟨.hbm, 116, rfl⟩
abbrev main_v86 : Ref sig .tc := ⟨.hbm, 117, rfl⟩
abbrev main_c_25 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_26 : Ref sig .tc := ⟨.hbm, 122, rfl⟩
abbrev main_v90 : Ref sig .tc := ⟨.hbm, 123, rfl⟩
abbrev main_v91 : Ref sig .tc := ⟨.hbm, 124, rfl⟩
abbrev main_c_27 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_28 : Ref sig .tc := ⟨.hbm, 131, rfl⟩
abbrev main_v97 : Ref sig .tc := ⟨.hbm, 132, rfl⟩
abbrev main_v98 : Ref sig .tc := ⟨.hbm, 133, rfl⟩
abbrev main_c_29 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_30 : Ref sig .tc := ⟨.hbm, 140, rfl⟩
abbrev main_v104 : Ref sig .tc := ⟨.hbm, 141, rfl⟩
abbrev main_v105 : Ref sig .tc := ⟨.hbm, 142, rfl⟩
abbrev main_c_31 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_32 : Ref sig .tc := ⟨.hbm, 149, rfl⟩
abbrev main_v111 : Ref sig .tc := ⟨.hbm, 150, rfl⟩
abbrev main_v112 : Ref sig .tc := ⟨.hbm, 151, rfl⟩
abbrev main_c_33 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_34 : Ref sig .tc := ⟨.hbm, 157, rfl⟩
abbrev main_v117 : Ref sig .tc := ⟨.hbm, 158, rfl⟩
abbrev main_v118 : Ref sig .tc := ⟨.hbm, 159, rfl⟩
abbrev main_c_35 : Ref sig .tc := ⟨.hbm, 160, rfl⟩
abbrev main_v119 : Ref sig .tc := ⟨.hbm, 161, rfl⟩
abbrev main_v120 : Ref sig .tc := ⟨.hbm, 162, rfl⟩
abbrev main_c_36 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_37 : Ref sig .tc := ⟨.hbm, 167, rfl⟩
abbrev main_v124 : Ref sig .tc := ⟨.hbm, 168, rfl⟩
abbrev main_v125 : Ref sig .tc := ⟨.hbm, 169, rfl⟩
abbrev main_c_38 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_c_39 : Ref sig .tc := ⟨.hbm, 176, rfl⟩
abbrev main_v131 : Ref sig .tc := ⟨.hbm, 177, rfl⟩
abbrev main_v132 : Ref sig .tc := ⟨.hbm, 178, rfl⟩
abbrev main_c_40 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_c_41 : Ref sig .tc := ⟨.hbm, 185, rfl⟩
abbrev main_v138 : Ref sig .tc := ⟨.hbm, 186, rfl⟩
abbrev main_v139 : Ref sig .tc := ⟨.hbm, 187, rfl⟩
abbrev main_c_42 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_c_43 : Ref sig .tc := ⟨.hbm, 194, rfl⟩
abbrev main_v145 : Ref sig .tc := ⟨.hbm, 195, rfl⟩
abbrev main_v146 : Ref sig .tc := ⟨.hbm, 196, rfl⟩
abbrev main_c_44 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_c_45 : Ref sig .tc := ⟨.hbm, 202, rfl⟩
abbrev main_v151 : Ref sig .tc := ⟨.hbm, 203, rfl⟩
abbrev main_v152 : Ref sig .tc := ⟨.hbm, 204, rfl⟩
abbrev main_c_46 : Ref sig .tc := ⟨.hbm, 205, rfl⟩
abbrev main_v153 : Ref sig .tc := ⟨.hbm, 206, rfl⟩
abbrev main_v154 : Ref sig .tc := ⟨.hbm, 207, rfl⟩
abbrev main_c_47 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_c_48 : Ref sig .tc := ⟨.hbm, 212, rfl⟩
abbrev main_v158 : Ref sig .tc := ⟨.hbm, 213, rfl⟩
abbrev main_v159 : Ref sig .tc := ⟨.hbm, 214, rfl⟩
abbrev main_c_49 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_c_50 : Ref sig .tc := ⟨.hbm, 221, rfl⟩
abbrev main_v165 : Ref sig .tc := ⟨.hbm, 222, rfl⟩
abbrev main_v166 : Ref sig .tc := ⟨.hbm, 223, rfl⟩
abbrev main_c_51 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_c_52 : Ref sig .tc := ⟨.hbm, 230, rfl⟩
abbrev main_v172 : Ref sig .tc := ⟨.hbm, 231, rfl⟩
abbrev main_v173 : Ref sig .tc := ⟨.hbm, 232, rfl⟩
abbrev main_c_53 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_c_54 : Ref sig .tc := ⟨.hbm, 239, rfl⟩
abbrev main_v179 : Ref sig .tc := ⟨.hbm, 240, rfl⟩
abbrev main_v180 : Ref sig .tc := ⟨.hbm, 241, rfl⟩
abbrev main_c_55 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_c_56 : Ref sig .tc := ⟨.hbm, 247, rfl⟩
abbrev main_v185 : Ref sig .tc := ⟨.hbm, 248, rfl⟩
abbrev main_v186 : Ref sig .tc := ⟨.hbm, 249, rfl⟩
abbrev main_c_57 : Ref sig .tc := ⟨.hbm, 250, rfl⟩
abbrev main_v187 : Ref sig .tc := ⟨.hbm, 251, rfl⟩
abbrev main_v188 : Ref sig .tc := ⟨.hbm, 252, rfl⟩
abbrev main_c_58 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_c_59 : Ref sig .tc := ⟨.hbm, 257, rfl⟩
abbrev main_v192 : Ref sig .tc := ⟨.hbm, 258, rfl⟩
abbrev main_v193 : Ref sig .tc := ⟨.hbm, 259, rfl⟩
abbrev main_c_60 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_cst_61 : Ref sig .tc := ⟨.hbm, 264, rfl⟩
abbrev main_v197 : Ref sig .tc := ⟨.hbm, 265, rfl⟩
abbrev main_v198 : Ref sig .tc := ⟨.hbm, 266, rfl⟩
abbrev main_cst_62 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_cst_63 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_values_64 : Ref sig .tc := ⟨.hbm, 281, rfl⟩
abbrev main_indices_65 : Ref sig .tc := ⟨.hbm, 282, rfl⟩
abbrev main_v211 : Ref sig .tc := ⟨.hbm, 283, rfl⟩
abbrev main_call0_c : Ref sig .tc := ⟨.hbm, 284, rfl⟩
abbrev main_call0_v0 : Ref sig .tc := ⟨.hbm, 285, rfl⟩
abbrev main_call0_v1 : Ref sig .tc := ⟨.hbm, 286, rfl⟩
abbrev main_call0_c_0 : Ref sig .tc := ⟨.hbm, 287, rfl⟩
abbrev main_call0_v2 : Ref sig .tc := ⟨.hbm, 288, rfl⟩
abbrev main_call0_v3 : Ref sig .tc := ⟨.hbm, 289, rfl⟩
abbrev main_call0_v4 : Ref sig .tc := ⟨.hbm, 290, rfl⟩
abbrev main_call0_v5 : Ref sig .tc := ⟨.hbm, 291, rfl⟩
abbrev main_call0_c_1 : Ref sig .tc := ⟨.hbm, 292, rfl⟩
abbrev main_call0_c_2 : Ref sig .tc := ⟨.hbm, 293, rfl⟩
abbrev main_call0_v6 : Ref sig .tc := ⟨.hbm, 294, rfl⟩
abbrev main_call0_v7 : Ref sig .tc := ⟨.hbm, 295, rfl⟩
abbrev main_call0_v8 : Ref sig .tc := ⟨.hbm, 296, rfl⟩
abbrev main_call0_v9 : Ref sig .tc := ⟨.hbm, 297, rfl⟩
abbrev main_call0_v10 : Ref sig .tc := ⟨.hbm, 298, rfl⟩
abbrev main_call0_v11 : Ref sig .tc := ⟨.hbm, 299, rfl⟩
abbrev main_call0_c_3 : Ref sig .tc := ⟨.hbm, 300, rfl⟩
abbrev main_call0_v12 : Ref sig .tc := ⟨.hbm, 301, rfl⟩
abbrev main_call0_v13 : Ref sig .tc := ⟨.hbm, 302, rfl⟩
abbrev main_call0_cst : Ref sig .tc := ⟨.hbm, 303, rfl⟩
abbrev main_call0_v14 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_c_66 : Ref sig .tc := ⟨.hbm, 310, rfl⟩
abbrev main_v217 : Ref sig .tc := ⟨.hbm, 311, rfl⟩
abbrev main_c_67 : Ref sig .tc := ⟨.hbm, 312, rfl⟩
abbrev main_v218 : Ref sig .tc := ⟨.hbm, 313, rfl⟩
abbrev main_v219 : Ref sig .tc := ⟨.hbm, 314, rfl⟩
abbrev main_c_68 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_c_69 : Ref sig .tc := ⟨.hbm, 319, rfl⟩
abbrev main_v223 : Ref sig .tc := ⟨.hbm, 320, rfl⟩
abbrev main_v224 : Ref sig .tc := ⟨.hbm, 321, rfl⟩
abbrev main_c_70 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_c_71 : Ref sig .tc := ⟨.hbm, 328, rfl⟩
abbrev main_v230 : Ref sig .tc := ⟨.hbm, 329, rfl⟩
abbrev main_v231 : Ref sig .tc := ⟨.hbm, 330, rfl⟩
abbrev main_c_72 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_c_73 : Ref sig .tc := ⟨.hbm, 337, rfl⟩
abbrev main_v237 : Ref sig .tc := ⟨.hbm, 338, rfl⟩
abbrev main_v238 : Ref sig .tc := ⟨.hbm, 339, rfl⟩
abbrev main_c_74 : Ref sig .tc := ⟨.hbm, 340, rfl⟩
abbrev main_v239 : Ref sig .tc := ⟨.hbm, 341, rfl⟩
abbrev main_v240 : Ref sig .tc := ⟨.hbm, 342, rfl⟩
abbrev main_v241 : Ref sig .tc := ⟨.hbm, 343, rfl⟩
abbrev main_v242 : Ref sig .tc := ⟨.hbm, 344, rfl⟩
abbrev main_v243 : Ref sig .tc := ⟨.hbm, 345, rfl⟩
abbrev main_c_75 : Ref sig .tc := ⟨.hbm, 346, rfl⟩
abbrev main_v244 : Ref sig .tc := ⟨.hbm, 347, rfl⟩
abbrev main_v245 : Ref sig .tc := ⟨.hbm, 348, rfl⟩
abbrev main_c_76 : Ref sig .tc := ⟨.hbm, 349, rfl⟩
abbrev main_v246 : Ref sig .tc := ⟨.hbm, 350, rfl⟩
abbrev main_v247 : Ref sig .tc := ⟨.hbm, 351, rfl⟩
abbrev main_v248 : Ref sig .tc := ⟨.hbm, 352, rfl⟩
abbrev main_v249 : Ref sig .tc := ⟨.hbm, 353, rfl⟩
abbrev main_c_77 : Ref sig .tc := ⟨.hbm, 354, rfl⟩
abbrev main_v250 : Ref sig .tc := ⟨.hbm, 355, rfl⟩
abbrev main_v251 : Ref sig .tc := ⟨.hbm, 356, rfl⟩
abbrev main_c_78 : Ref sig .tc := ⟨.hbm, 357, rfl⟩
abbrev main_v252 : Ref sig .tc := ⟨.hbm, 358, rfl⟩
abbrev main_v253 : Ref sig .tc := ⟨.hbm, 359, rfl⟩
abbrev main_c_79 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_c_80 : Ref sig .tc := ⟨.hbm, 364, rfl⟩
abbrev main_v257 : Ref sig .tc := ⟨.hbm, 365, rfl⟩
abbrev main_v258 : Ref sig .tc := ⟨.hbm, 366, rfl⟩
abbrev main_c_81 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_c_82 : Ref sig .tc := ⟨.hbm, 373, rfl⟩
abbrev main_v264 : Ref sig .tc := ⟨.hbm, 374, rfl⟩
abbrev main_v265 : Ref sig .tc := ⟨.hbm, 375, rfl⟩
abbrev main_c_83 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_c_84 : Ref sig .tc := ⟨.hbm, 382, rfl⟩
abbrev main_v271 : Ref sig .tc := ⟨.hbm, 383, rfl⟩
abbrev main_v272 : Ref sig .tc := ⟨.hbm, 384, rfl⟩
abbrev main_c_85 : Ref sig .tc := ⟨.hbm, 385, rfl⟩
abbrev main_v273 : Ref sig .tc := ⟨.hbm, 386, rfl⟩
abbrev main_v274 : Ref sig .tc := ⟨.hbm, 387, rfl⟩
abbrev main_v275 : Ref sig .tc := ⟨.hbm, 388, rfl⟩
abbrev main_v276 : Ref sig .tc := ⟨.hbm, 389, rfl⟩
abbrev main_v277 : Ref sig .tc := ⟨.hbm, 390, rfl⟩
abbrev main_c_86 : Ref sig .tc := ⟨.hbm, 391, rfl⟩
abbrev main_v278 : Ref sig .tc := ⟨.hbm, 392, rfl⟩
abbrev main_v279 : Ref sig .tc := ⟨.hbm, 393, rfl⟩
abbrev main_c_87 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_c_88 : Ref sig .tc := ⟨.hbm, 399, rfl⟩
abbrev main_v284 : Ref sig .tc := ⟨.hbm, 400, rfl⟩
abbrev main_v285 : Ref sig .tc := ⟨.hbm, 401, rfl⟩
abbrev main_c_89 : Ref sig .tc := ⟨.hbm, 402, rfl⟩
abbrev main_v286 : Ref sig .tc := ⟨.hbm, 403, rfl⟩
abbrev main_v287 : Ref sig .tc := ⟨.hbm, 404, rfl⟩
abbrev main_c_90 : Ref sig .tc := ⟨.hbm, 405, rfl⟩
abbrev main_v288 : Ref sig .tc := ⟨.hbm, 406, rfl⟩
abbrev main_v289 : Ref sig .tc := ⟨.hbm, 407, rfl⟩
abbrev main_v290 : Ref sig .tc := ⟨.hbm, 408, rfl⟩
abbrev main_c_91 : Ref sig .tc := ⟨.hbm, 409, rfl⟩
abbrev main_v291 : Ref sig .tc := ⟨.hbm, 410, rfl⟩
abbrev main_v292 : Ref sig .tc := ⟨.hbm, 411, rfl⟩
abbrev main_c_92 : Ref sig .tc := ⟨.hbm, 412, rfl⟩
abbrev main_v293 : Ref sig .tc := ⟨.hbm, 413, rfl⟩
abbrev main_v294 : Ref sig .tc := ⟨.hbm, 414, rfl⟩
abbrev main_v295 : Ref sig .tc := ⟨.hbm, 415, rfl⟩
abbrev main_v296 : Ref sig .tc := ⟨.hbm, 416, rfl⟩
abbrev main_v297 : Ref sig .tc := ⟨.hbm, 417, rfl⟩
abbrev main_c_93 : Ref sig .tc := ⟨.hbm, 418, rfl⟩
abbrev main_v298 : Ref sig .tc := ⟨.hbm, 419, rfl⟩
abbrev main_v299 : Ref sig .tc := ⟨.hbm, 420, rfl⟩
abbrev main_c_94 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩
abbrev main_v303 : Ref sig .tc := ⟨.hbm, 425, rfl⟩
abbrev main_v304 : Ref sig .tc := ⟨.hbm, 426, rfl⟩
abbrev main_c_95 : Ref sig .tc := ⟨.hbm, 427, rfl⟩
abbrev main_v305 : Ref sig .tc := ⟨.hbm, 428, rfl⟩
abbrev main_v306 : Ref sig .tc := ⟨.hbm, 429, rfl⟩
abbrev main_c_96 : Ref sig .tc := ⟨.hbm, 430, rfl⟩
abbrev main_v307 : Ref sig .tc := ⟨.hbm, 431, rfl⟩
abbrev main_v308 : Ref sig .tc := ⟨.hbm, 432, rfl⟩
abbrev main_v309 : Ref sig .tc := ⟨.hbm, 433, rfl⟩
abbrev main_v310 : Ref sig .tc := ⟨.hbm, 434, rfl⟩
abbrev main_v311 : Ref sig .tc := ⟨.hbm, 435, rfl⟩
abbrev main_c_97 : Ref sig .tc := ⟨.hbm, 436, rfl⟩
abbrev main_v312 : Ref sig .tc := ⟨.hbm, 437, rfl⟩
abbrev main_v313 : Ref sig .tc := ⟨.hbm, 438, rfl⟩
abbrev main_c_98 : Ref sig .tc := ⟨.hbm, 439, rfl⟩
abbrev main_v314 : Ref sig .tc := ⟨.hbm, 440, rfl⟩
abbrev main_v315 : Ref sig .tc := ⟨.hbm, 441, rfl⟩
abbrev main_v316 : Ref sig .tc := ⟨.hbm, 442, rfl⟩
abbrev main_v317 : Ref sig .tc := ⟨.hbm, 443, rfl⟩
abbrev main_c_99 : Ref sig .tc := ⟨.hbm, 444, rfl⟩
abbrev main_v318 : Ref sig .tc := ⟨.hbm, 445, rfl⟩
abbrev main_v319 : Ref sig .tc := ⟨.hbm, 446, rfl⟩
abbrev main_c_100 : Ref sig .tc := ⟨.hbm, 447, rfl⟩
abbrev main_v320 : Ref sig .tc := ⟨.hbm, 448, rfl⟩
abbrev main_v321 : Ref sig .tc := ⟨.hbm, 449, rfl⟩
abbrev main_c_101 : Ref sig .tc := ⟨.hbm, 450, rfl⟩
abbrev main_v322 : Ref sig .tc := ⟨.hbm, 451, rfl⟩
abbrev main_v323 : Ref sig .tc := ⟨.hbm, 452, rfl⟩
abbrev main_v324 : Ref sig .tc := ⟨.hbm, 453, rfl⟩
abbrev main_c_102 : Ref sig .tc := ⟨.hbm, 454, rfl⟩
abbrev main_v325 : Ref sig .tc := ⟨.hbm, 455, rfl⟩
abbrev main_v326 : Ref sig .tc := ⟨.hbm, 456, rfl⟩
abbrev main_c_103 : Ref sig .tc := ⟨.hbm, 457, rfl⟩
abbrev main_v327 : Ref sig .tc := ⟨.hbm, 458, rfl⟩
abbrev main_v328 : Ref sig .tc := ⟨.hbm, 459, rfl⟩
abbrev main_v329 : Ref sig .tc := ⟨.hbm, 460, rfl⟩
abbrev main_v330 : Ref sig .tc := ⟨.hbm, 461, rfl⟩
abbrev main_v331 : Ref sig .tc := ⟨.hbm, 462, rfl⟩
abbrev main_c_104 : Ref sig .tc := ⟨.hbm, 463, rfl⟩
abbrev main_v332 : Ref sig .tc := ⟨.hbm, 464, rfl⟩
abbrev main_v333 : Ref sig .tc := ⟨.hbm, 465, rfl⟩
abbrev main_c_105 : Ref sig .tc := ⟨.hbm, 466, rfl⟩
abbrev main_v334 : Ref sig .tc := ⟨.hbm, 467, rfl⟩
abbrev main_v335 : Ref sig .tc := ⟨.hbm, 468, rfl⟩
abbrev main_v336 : Ref sig .tc := ⟨.hbm, 469, rfl⟩
abbrev main_v337 : Ref sig .tc := ⟨.hbm, 470, rfl⟩
abbrev main_v338 : Ref sig .tc := ⟨.hbm, 471, rfl⟩
abbrev main_c_106 : Ref sig .tc := ⟨.hbm, 472, rfl⟩
abbrev main_v339 : Ref sig .tc := ⟨.hbm, 473, rfl⟩
abbrev main_v340 : Ref sig .tc := ⟨.hbm, 474, rfl⟩
abbrev main_c_107 : Ref sig .tc := ⟨.hbm, 475, rfl⟩
abbrev main_v341 : Ref sig .tc := ⟨.hbm, 476, rfl⟩
abbrev main_v342 : Ref sig .tc := ⟨.hbm, 477, rfl⟩
abbrev main_v343 : Ref sig .tc := ⟨.hbm, 478, rfl⟩
abbrev main_v344 : Ref sig .tc := ⟨.hbm, 479, rfl⟩
abbrev main_v345 : Ref sig .tc := ⟨.hbm, 480, rfl⟩
abbrev main_c_108 : Ref sig .tc := ⟨.hbm, 481, rfl⟩
abbrev main_v346 : Ref sig .tc := ⟨.hbm, 482, rfl⟩
abbrev main_v347 : Ref sig .tc := ⟨.hbm, 483, rfl⟩
abbrev main_c_109 : Ref sig .tc := ⟨.hbm, 484, rfl⟩
abbrev main_v348 : Ref sig .tc := ⟨.hbm, 485, rfl⟩
abbrev main_v349 : Ref sig .tc := ⟨.hbm, 486, rfl⟩
abbrev main_v350 : Ref sig .tc := ⟨.hbm, 487, rfl⟩
abbrev main_v351 : Ref sig .tc := ⟨.hbm, 488, rfl⟩
abbrev main_c_110 : Ref sig .tc := ⟨.hbm, 489, rfl⟩
abbrev main_v352 : Ref sig .tc := ⟨.hbm, 490, rfl⟩
abbrev main_v353 : Ref sig .tc := ⟨.hbm, 491, rfl⟩
abbrev main_c_111 : Ref sig .tc := ⟨.hbm, 492, rfl⟩
abbrev main_v354 : Ref sig .tc := ⟨.hbm, 493, rfl⟩
abbrev main_v355 : Ref sig .tc := ⟨.hbm, 494, rfl⟩
abbrev main_c_112 : Ref sig .tc := ⟨.hbm, 495, rfl⟩
abbrev main_v356 : Ref sig .tc := ⟨.hbm, 496, rfl⟩
abbrev main_v357 : Ref sig .tc := ⟨.hbm, 497, rfl⟩
abbrev main_v358 : Ref sig .tc := ⟨.hbm, 498, rfl⟩
abbrev main_c_113 : Ref sig .tc := ⟨.hbm, 499, rfl⟩
abbrev main_v359 : Ref sig .tc := ⟨.hbm, 500, rfl⟩
abbrev main_v360 : Ref sig .tc := ⟨.hbm, 501, rfl⟩
abbrev main_c_114 : Ref sig .tc := ⟨.hbm, 502, rfl⟩
abbrev main_v361 : Ref sig .tc := ⟨.hbm, 503, rfl⟩
abbrev main_v362 : Ref sig .tc := ⟨.hbm, 504, rfl⟩
abbrev main_v363 : Ref sig .tc := ⟨.hbm, 505, rfl⟩
abbrev main_v364 : Ref sig .tc := ⟨.hbm, 506, rfl⟩
abbrev main_v365 : Ref sig .tc := ⟨.hbm, 507, rfl⟩
abbrev main_c_115 : Ref sig .tc := ⟨.hbm, 508, rfl⟩
abbrev main_v366 : Ref sig .tc := ⟨.hbm, 509, rfl⟩
abbrev main_v367 : Ref sig .tc := ⟨.hbm, 510, rfl⟩
abbrev main_c_116 : Ref sig .tc := ⟨.hbm, 511, rfl⟩
abbrev main_v368 : Ref sig .tc := ⟨.hbm, 512, rfl⟩
abbrev main_v369 : Ref sig .tc := ⟨.hbm, 513, rfl⟩
abbrev main_v370 : Ref sig .tc := ⟨.hbm, 514, rfl⟩
abbrev main_v371 : Ref sig .tc := ⟨.hbm, 515, rfl⟩
abbrev main_v372 : Ref sig .tc := ⟨.hbm, 516, rfl⟩
abbrev main_c_117 : Ref sig .tc := ⟨.hbm, 517, rfl⟩
abbrev main_v373 : Ref sig .tc := ⟨.hbm, 518, rfl⟩
abbrev main_v374 : Ref sig .tc := ⟨.hbm, 519, rfl⟩
abbrev main_c_118 : Ref sig .tc := ⟨.hbm, 520, rfl⟩
abbrev main_v375 : Ref sig .tc := ⟨.hbm, 521, rfl⟩
abbrev main_v376 : Ref sig .tc := ⟨.hbm, 522, rfl⟩
abbrev main_v377 : Ref sig .tc := ⟨.hbm, 523, rfl⟩
abbrev main_v378 : Ref sig .tc := ⟨.hbm, 524, rfl⟩
abbrev main_v379 : Ref sig .tc := ⟨.hbm, 525, rfl⟩
abbrev main_c_119 : Ref sig .tc := ⟨.hbm, 526, rfl⟩
abbrev main_v380 : Ref sig .tc := ⟨.hbm, 527, rfl⟩
abbrev main_v381 : Ref sig .tc := ⟨.hbm, 528, rfl⟩
abbrev main_c_120 : Ref sig .tc := ⟨.hbm, 529, rfl⟩
abbrev main_v382 : Ref sig .tc := ⟨.hbm, 530, rfl⟩
abbrev main_v383 : Ref sig .tc := ⟨.hbm, 531, rfl⟩
abbrev main_v384 : Ref sig .tc := ⟨.hbm, 532, rfl⟩
abbrev main_v385 : Ref sig .tc := ⟨.hbm, 533, rfl⟩
abbrev main_c_121 : Ref sig .tc := ⟨.hbm, 534, rfl⟩
abbrev main_v386 : Ref sig .tc := ⟨.hbm, 535, rfl⟩
abbrev main_v387 : Ref sig .tc := ⟨.hbm, 536, rfl⟩
abbrev main_c_122 : Ref sig .tc := ⟨.hbm, 537, rfl⟩
abbrev main_v388 : Ref sig .tc := ⟨.hbm, 538, rfl⟩
abbrev main_v389 : Ref sig .tc := ⟨.hbm, 539, rfl⟩
abbrev main_c_123 : Ref sig .tc := ⟨.hbm, 540, rfl⟩
abbrev main_v390 : Ref sig .tc := ⟨.hbm, 541, rfl⟩
abbrev main_v391 : Ref sig .tc := ⟨.hbm, 542, rfl⟩
abbrev main_v392 : Ref sig .tc := ⟨.hbm, 543, rfl⟩
abbrev main_c_124 : Ref sig .tc := ⟨.hbm, 544, rfl⟩
abbrev main_v393 : Ref sig .tc := ⟨.hbm, 545, rfl⟩
abbrev main_v394 : Ref sig .tc := ⟨.hbm, 546, rfl⟩
abbrev main_c_125 : Ref sig .tc := ⟨.hbm, 547, rfl⟩
abbrev main_v395 : Ref sig .tc := ⟨.hbm, 548, rfl⟩
abbrev main_v396 : Ref sig .tc := ⟨.hbm, 549, rfl⟩
abbrev main_v397 : Ref sig .tc := ⟨.hbm, 550, rfl⟩
abbrev main_cst_126 : Ref sig .tc := ⟨.hbm, 551, rfl⟩
abbrev main_v398 : Ref sig .tc := ⟨.hbm, 552, rfl⟩
abbrev main_v399 : Ref sig .tc := ⟨.hbm, 553, rfl⟩
abbrev main_cst_127 : Ref sig .tc := ⟨.hbm, 554, rfl⟩
abbrev main_v400 : Ref sig .tc := ⟨.hbm, 555, rfl⟩
abbrev main_v401 : Ref sig .tc := ⟨.hbm, 556, rfl⟩
abbrev main_v402 : Ref sig .tc := ⟨.hbm, 557, rfl⟩
abbrev main_v403 : Ref sig .tc := ⟨.hbm, 558, rfl⟩
abbrev main_v404 : Ref sig .tc := ⟨.hbm, 559, rfl⟩
abbrev main_v405 : Ref sig .tc := ⟨.hbm, 560, rfl⟩
abbrev main_cst_128 : Ref sig .tc := ⟨.hbm, 561, rfl⟩
abbrev main_v406 : Ref sig .tc := ⟨.hbm, 562, rfl⟩
abbrev main_v407 : Ref sig .tc := ⟨.hbm, 563, rfl⟩
abbrev main_v408 : Ref sig .tc := ⟨.hbm, 564, rfl⟩
abbrev main_v409 : Ref sig .tc := ⟨.hbm, 565, rfl⟩
abbrev main_values_129 : Ref sig .tc := ⟨.hbm, 566, rfl⟩
abbrev main_indices_130 : Ref sig .tc := ⟨.hbm, 567, rfl⟩
abbrev main_v410 : Ref sig .tc := ⟨.hbm, 568, rfl⟩
abbrev main_v411 : Ref sig .tc := ⟨.hbm, 569, rfl⟩
abbrev main_call1_c : Ref sig .tc := ⟨.hbm, 570, rfl⟩
abbrev main_call1_v0 : Ref sig .tc := ⟨.hbm, 571, rfl⟩
abbrev main_call1_v1 : Ref sig .tc := ⟨.hbm, 572, rfl⟩
abbrev main_call1_c_0 : Ref sig .tc := ⟨.hbm, 573, rfl⟩
abbrev main_call1_v2 : Ref sig .tc := ⟨.hbm, 574, rfl⟩
abbrev main_call1_v3 : Ref sig .tc := ⟨.hbm, 575, rfl⟩
abbrev main_call1_v4 : Ref sig .tc := ⟨.hbm, 576, rfl⟩
abbrev main_call1_v5 : Ref sig .tc := ⟨.hbm, 577, rfl⟩
abbrev main_call1_c_1 : Ref sig .tc := ⟨.hbm, 578, rfl⟩
abbrev main_call1_c_2 : Ref sig .tc := ⟨.hbm, 579, rfl⟩
abbrev main_call1_v6 : Ref sig .tc := ⟨.hbm, 580, rfl⟩
abbrev main_call1_v7 : Ref sig .tc := ⟨.hbm, 581, rfl⟩
abbrev main_call1_v8 : Ref sig .tc := ⟨.hbm, 582, rfl⟩
abbrev main_call1_v9 : Ref sig .tc := ⟨.hbm, 583, rfl⟩
abbrev main_call1_v10 : Ref sig .tc := ⟨.hbm, 584, rfl⟩
abbrev main_call1_v11 : Ref sig .tc := ⟨.hbm, 585, rfl⟩
abbrev main_call1_c_3 : Ref sig .tc := ⟨.hbm, 586, rfl⟩
abbrev main_call1_v12 : Ref sig .tc := ⟨.hbm, 587, rfl⟩
abbrev main_call1_v13 : Ref sig .tc := ⟨.hbm, 588, rfl⟩
abbrev main_call1_cst : Ref sig .tc := ⟨.hbm, 589, rfl⟩
abbrev main_call1_v14 : Ref sig .tc := ⟨.hbm, 590, rfl⟩
abbrev main_v412 : Ref sig .tc := ⟨.hbm, 591, rfl⟩
abbrev main_v413 : Ref sig .tc := ⟨.hbm, 592, rfl⟩
abbrev main_cst_131 : Ref sig .tc := ⟨.hbm, 593, rfl⟩
abbrev main_v414 : Ref sig .tc := ⟨.hbm, 594, rfl⟩
abbrev main_v415 : Ref sig .tc := ⟨.hbm, 595, rfl⟩
abbrev main_c_132 : Ref sig .tc := ⟨.hbm, 596, rfl⟩
abbrev main_v416 : Ref sig .tc := ⟨.hbm, 597, rfl⟩
abbrev main_cst_133 : Ref sig .tc := ⟨.hbm, 598, rfl⟩
abbrev main_v417 : Ref sig .tc := ⟨.hbm, 599, rfl⟩
abbrev main_v418 : Ref sig .tc := ⟨.hbm, 600, rfl⟩
abbrev main_v419 : Ref sig .tc := ⟨.hbm, 601, rfl⟩

abbrev nD : Nat := 1
abbrev τ : Topo := Topo.v7x

variable {F : FTy → Type} [FloatOps F]
-- ==== Proof.Frames.lean ====
/- The frame claims: every run of each of the three programs ends, nothing faulting, with the two argument arrays as launched
   and every semaphore at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel at the hardware's floats. -/
theorem frame_kernel : Cert.quiescent_Kernel := fun m ρ _ => Cert.Kernel.Gen.frame m ρ

/-- The kernel at the extended reals. -/
theorem frame_kernel_ideal : Cert.quiescent_KernelIdeal := fun m ρ _ => Cert.KernelIdeal.Gen.frame m ρ

/-- The reference at the extended reals; it declares no semaphore. -/
theorem frame_reference_ideal : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

end Cert.Proof

end
-- ==== Proof.Block.lean ====
/- What the first kernel computes of one batch, as vectors: the probabilities and their logarithms, the counter-based random words, the
   noise, the sampled positions and the probabilities there. The kernel's block holds four batches, and each of its stores is one
   of these vectors. -/
module

public import proofs.«01_k».proof.Proof.Gen.KernelIdeal.Frame
public import Idealize.ShloMosaic.Lib.Pointwise

@[expose] public section

noncomputable section

namespace Cert.KernelIdeal.Block

open Idealize.ShloMosaic Idealize.SL.Sem Cert.KernelIdeal Cert.KernelIdeal.Gen

/-! ## The random words -/

/-- The two words of the cipher's state, at every index of a vector. -/
abbrev Pair (s : Shape) : Type := IVec s 32 × IVec s 32

/-- One round: the sum of the words, and the second word turned left by `r` (right by `r'`) and crossed with the sum. -/
def mixV {s : Shape} (r r' : BitVec 32) (p : Pair s) : Pair s :=
  (addi p.1 p.2, xori (ori (shli p.2 (broadcast s r)) (shrui p.2 (broadcast s r'))) (addi p.1 p.2))

/-- Key words added to the two words. -/
def addKeyV {s : Shape} (a b : BitVec 32) (p : Pair s) : Pair s := (addi p.1 (broadcast s a), addi p.2 (broadcast s b))

/-- The first round, on a state whose first word is zero. -/
def firstV {s : Shape} (x : IVec s 32) : Pair s :=
  (x, xori (ori (shli x (broadcast s 13#32)) (shrui x (broadcast s 19#32))) x)

/-- The last three of a group of four rounds of the first kind. -/
def mixThreeV {s : Shape} (p : Pair s) : Pair s := mixV 6#32 26#32 (mixV 26#32 6#32 (mixV 15#32 17#32 p))

/-- Four rounds of the second kind. -/
def mixFourV {s : Shape} (p : Pair s) : Pair s :=
  mixV 24#32 8#32 (mixV 16#32 16#32 (mixV 29#32 3#32 (mixV 17#32 15#32 p)))

/-- The random words of the counters, which come with the key's low word added: `k1` and `k2` are the key's words, `k21`, `k13` and
    `k24` the sums the schedule takes of them. -/
def bitsV {s : Shape} (k1 k2 k21 k13 k24 : BitVec 32) (x : IVec s 32) : IVec s 32 :=
  let p := addKeyV k1 k21 (mixThreeV (firstV x))
  let p := addKeyV k2 2#32 (mixFourV p)
  let p := mixThreeV (mixV 13#32 19#32 p)
  let p := mixFourV (p.1, addi p.2 (broadcast s k13))
  let p := addKeyV k1 k24 p
  let p := addKeyV k2 5#32 (mixThreeV (mixV 13#32 19#32 p))
  xori p.1 p.2

/-- The noise `-log (-log u)` of the random words, `u` the uniform draw their high bits make. -/
def noiseV {s : Shape} (w : IVec s 32) : FVec Ideal s .f32 :=
  let u : FVec Ideal s .f32 := maximumf
    (subf (bitcastToFloat .f32 (ori (shrui w (broadcast s 9#32)) (broadcast s 1065353216#32)))
      (broadcast s (Scalar.ofBits .f32 0x3F800000#32)))
    (broadcast s (Scalar.ofBits .f32 0x00800000#32))
  subf (broadcast s (Scalar.ofBits .f32 0x00000000#32)) (log (subf (broadcast s (Scalar.ofBits .f32 0x00000000#32)) (log u)))

/-! ## One batch -/

/-- The probabilities: each row's exponentials over their sum. -/
def probV (x : Vec Ideal S1x128x2048 .f32) : FVec Ideal S128x2048 .f32 := k0_pay6 (k0_pay3 x) (k0_pay4 x) (k0_pay5 x)

/-- Their logarithms, a small constant added first. -/
def logV (x : Vec Ideal S1x128x2048 .f32) : FVec Ideal S128x2048 .f32 := k0_pay7 (k0_pay3 x) (k0_pay4 x) (k0_pay5 x)

/-- The scores of the 128 rows of batch `b`, each from its own row of probabilities. -/
def scoreRowsV (x : Vec Ideal S1x128x2048 .f32) (b : BitVec 32) : FVec Ideal S128x2048 .f32 :=
  addf (logV x) (noiseV (bitsV 2#32 466688984#32 466688985#32 5#32 466688988#32 (k0_pay8 b)))

/-- The scores of the 64 samples of batch `b`, all from the first row of probabilities. -/
def scoreFirstV (x : Vec Ideal S1x128x2048 .f32) (b : BitVec 32) : FVec Ideal S64x2048 .f32 :=
  addf (broadcastTo S64x2048 (extractStridedSlice S1x2048 ![0, 0] (logV x) slices_S128x2048_o0_0_S1x2048) broadcasts_S1x2048_S64x2048)
    (noiseV (bitsV 1#32 466688987#32 466688988#32 4#32 466688991#32 (k0_pay62 b)))

/-- The column of first positions of each row's greatest entry, 128 rows. -/
def pickRowsV (f : FVec Ideal S128x2048 .f32) : IVec S128x1 32 :=
  shapeCast S128x1 (multiReductionI .minsi [1] S128
    (select (cmpf .oeq f (broadcastTo S128x2048 (shapeCast S128x1
        (multiReduction .maximumf [1] S128 f 0xFF800000#32 reduces_S128x2048_S128 (.inl rfl) rfl) shapeCasts_S128_S128x1)
        broadcasts_S128x1_S128x2048))
      (iota .tc S128x2048 32 [1] iota_S128x2048_d1_w32) (broadcast S128x2048 2048#32))
    2147483647#32 reduces_S128x2048_S128 rfl) shapeCasts_S128_S128x1

/-- The same for 64 rows. -/
def pickFirstV (f : FVec Ideal S64x2048 .f32) : IVec S64x1 32 :=
  shapeCast S64x1 (multiReductionI .minsi [1] S64
    (select (cmpf .oeq f (broadcastTo S64x2048 (shapeCast S64x1
        (multiReduction .maximumf [1] S64 f 0xFF800000#32 reduces_S64x2048_S64 (.inl rfl) rfl) shapeCasts_S64_S64x1)
        broadcasts_S64x1_S64x2048))
      (iota .tc S64x2048 32 [1] iota_S64x2048_d1_w32) (broadcast S64x2048 2048#32))
    2147483647#32 reduces_S64x2048_S64 rfl) shapeCasts_S64_S64x1

/-- The column of each row's entry at its picked position, 128 rows: the sum of the row with every other entry zeroed. -/
def atRowsV (p : FVec Ideal S128x2048 .f32) (c : IVec S128x1 32) : FVec Ideal S128x1 .f32 :=
  shapeCast S128x1 (multiReduction .add [1] S128
    (select (cmpi .eq (iota .tc S128x2048 32 [1] iota_S128x2048_d1_w32) (broadcastTo S128x2048 c broadcasts_S128x1_S128x2048)) p
      (broadcast S128x2048 (Scalar.ofBits .f32 0x00000000#32)))
    0x00000000#32 reduces_S128x2048_S128 (.inl rfl) rfl) shapeCasts_S128_S128x1

/-- The same for 64 rows that share the first row of probabilities. -/
def atFirstV (p : FVec Ideal S128x2048 .f32) (c : IVec S64x1 32) : FVec Ideal S64x1 .f32 :=
  shapeCast S64x1 (multiReduction .add [1] S64
    (select (cmpi .eq (iota .tc S64x2048 32 [1] iota_S64x2048_d1_w32) (broadcastTo S64x2048 c broadcasts_S64x1_S64x2048))
      (broadcastTo S64x2048 (shapeCast S1x2048
        (extractStridedSlice S1x2048 ![0, 0] p slices_S128x2048_o0_0_S1x2048) shapeCasts_S1x2048_S1x2048) broadcasts_S1x2048_S64x2048)
      (broadcast S64x2048 (Scalar.ofBits .f32 0x00000000#32)))
    0x00000000#32 reduces_S64x2048_S64 (.inl rfl) rfl) shapeCasts_S64_S64x1

/-- A column of words laid along a row: the sums of the columns of the diagonal matrix it makes. 128 of them. -/
def turnRowsI (c : IVec S128x1 32) : IVec S1x1x128 32 :=
  shapeCast S1x1x128 (shapeCast S1x128 (multiReductionI .add [0] S128
    (select (cmpi .eq (iota .tc S128x128 32 [0] iota_S128x128_d0_w32) (iota .tc S128x128 32 [1] iota_S128x128_d1_w32))
      (broadcastTo S128x128 (shapeCast S128x1 c shapeCasts_S128x1_S128x1) broadcasts_S128x1_S128x128) (broadcast S128x128 0#32))
    0#32 reduces_S128x128_S128 rfl) shapeCasts_S128_S1x128) shapeCasts_S1x128_S1x1x128

/-- The same for a column of numbers. -/
def turnRowsF (c : FVec Ideal S128x1 .f32) : FVec Ideal S1x1x128 .f32 :=
  shapeCast S1x1x128 (shapeCast S1x128 (multiReduction .add [0] S128
    (select (cmpi .eq (iota .tc S128x128 32 [0] iota_S128x128_d0_w32) (iota .tc S128x128 32 [1] iota_S128x128_d1_w32))
      (broadcastTo S128x128 (shapeCast S128x1 c shapeCasts_S128x1_S128x1) broadcasts_S128x1_S128x128)
      (broadcast S128x128 (Scalar.ofBits .f32 0x00000000#32)))
    0x00000000#32 reduces_S128x128_S128 (.inl rfl) rfl) shapeCasts_S128_S1x128) shapeCasts_S1x128_S1x1x128

/-- A column of 64 words laid along a row. -/
def turnFirstI (c : IVec S64x1 32) : IVec S1x1x64 32 :=
  shapeCast S1x1x64 (shapeCast S1x64 (multiReductionI .add [0] S64
    (select (cmpi .eq (iota .tc S64x64 32 [0] iota_S64x64_d0_w32) (iota .tc S64x64 32 [1] iota_S64x64_d1_w32))
      (broadcastTo S64x64 (shapeCast S64x1 c shapeCasts_S64x1_S64x1) broadcasts_S64x1_S64x64) (broadcast S64x64 0#32))
    0#32 reduces_S64x64_S64 rfl) shapeCasts_S64_S1x64) shapeCasts_S1x64_S1x1x64

/-- A column of 64 numbers laid along a row. -/
def turnFirstF (c : FVec Ideal S64x1 .f32) : FVec Ideal S1x1x64 .f32 := k0_pay2 c

/-- The sampled positions of the 128 rows. -/
def selRowsV (x : Vec Ideal S1x128x2048 .f32) (b : BitVec 32) : IVec S1x1x128 32 := turnRowsI (pickRowsV (scoreRowsV x b))

/-- The probabilities there. -/
def valRowsV (x : Vec Ideal S1x128x2048 .f32) (b : BitVec 32) : FVec Ideal S1x1x128 .f32 :=
  turnRowsF (atRowsV (probV x) (pickRowsV (scoreRowsV x b)))

/-- The positions of the 64 samples of the first row. -/
def selFirstV (x : Vec Ideal S1x128x2048 .f32) (b : BitVec 32) : IVec S1x1x64 32 := turnFirstI (pickFirstV (scoreFirstV x b))

/-- The probabilities there. -/
def valFirstV (x : Vec Ideal S1x128x2048 .f32) (b : BitVec 32) : FVec Ideal S1x1x64 .f32 :=
  turnFirstF (atFirstV (probV x) (pickFirstV (scoreFirstV x b)))

/-- The first row of probabilities. -/
def headV (x : Vec Ideal S1x128x2048 .f32) : FVec Ideal S1x1x2048 .f32 := k0_pay59 (probV x)

/-! ## The four batches of a block -/

/-- The number of batch `j` of block `i`, as the kernel makes it. -/
def batchWord (i : grid0.Coords) (j : BitVec 32) : BitVec 32 := Scalar.addi (Scalar.muli (BitVec.ofNat 32 (i 0).val) 4#32) j

/-- The block of sampled positions: one vector per batch. -/
theorem out_selRows (i : grid0.Coords) (x0 : Vec Ideal S4x128x2048 .f32) :
    out0_1 i x0 = View.canon [⟨r0_13, selRowsV (View.ld x0 r0_12) (batchWord i 3#32)⟩, ⟨r0_9, selRowsV (View.ld x0 r0_8) (batchWord i 2#32)⟩,
      ⟨r0_5, selRowsV (View.ld x0 r0_4) (batchWord i 1#32)⟩, ⟨r0_1, selRowsV (View.ld x0 r0_0) (batchWord i 0#32)⟩] := by
  unfold_out out0_1
  simp only [batchWord, selRowsV, turnRowsI, pickRowsV, scoreRowsV, logV, noiseV, bitsV, addKeyV, mixFourV, mixThreeV, mixV, firstV]
  unfold_payloads
  simp only []

/-- The block of the probabilities there. -/
theorem out_valRows (i : grid0.Coords) (x0 : Vec Ideal S4x128x2048 .f32) :
    out0_2 i x0 = View.canon [⟨r0_13, valRowsV (View.ld x0 r0_12) (batchWord i 3#32)⟩, ⟨r0_9, valRowsV (View.ld x0 r0_8) (batchWord i 2#32)⟩,
      ⟨r0_5, valRowsV (View.ld x0 r0_4) (batchWord i 1#32)⟩, ⟨r0_1, valRowsV (View.ld x0 r0_0) (batchWord i 0#32)⟩] := by
  unfold_out out0_2
  simp only [batchWord, valRowsV, turnRowsF, atRowsV, probV, pickRowsV, scoreRowsV, logV, noiseV, bitsV, addKeyV, mixFourV, mixThreeV, mixV,
    firstV]
  unfold_payloads
  simp only []

/-- The block of the positions sampled from first rows. -/
theorem out_selFirst (i : grid0.Coords) (x0 : Vec Ideal S4x128x2048 .f32) :
    out0_3 i x0 = View.canon [⟨r0_15, selFirstV (View.ld x0 r0_12) (batchWord i 3#32)⟩, ⟨r0_11, selFirstV (View.ld x0 r0_8) (batchWord i 2#32)⟩,
      ⟨r0_7, selFirstV (View.ld x0 r0_4) (batchWord i 1#32)⟩, ⟨r0_3, selFirstV (View.ld x0 r0_0) (batchWord i 0#32)⟩] := by
  unfold_out out0_3
  simp only [batchWord, selFirstV, turnFirstI, pickFirstV, scoreFirstV, logV, noiseV, bitsV, addKeyV, mixFourV, mixThreeV, mixV, firstV]
  unfold_payloads
  simp only []

/-- The block of the probabilities there. -/
theorem out_valFirst (i : grid0.Coords) (x0 : Vec Ideal S4x128x2048 .f32) :
    out0_4 i x0 = View.canon [⟨r0_15, valFirstV (View.ld x0 r0_12) (batchWord i 3#32)⟩, ⟨r0_11, valFirstV (View.ld x0 r0_8) (batchWord i 2#32)⟩,
      ⟨r0_7, valFirstV (View.ld x0 r0_4) (batchWord i 1#32)⟩, ⟨r0_3, valFirstV (View.ld x0 r0_0) (batchWord i 0#32)⟩] := by
  unfold_out out0_4
  simp only [batchWord, valFirstV, turnFirstF, atFirstV, probV, pickFirstV, scoreFirstV, logV, noiseV, bitsV, addKeyV, mixFourV, mixThreeV,
    mixV, firstV]
  unfold_payloads
  simp only []

/-- The block of first rows of probabilities. -/
theorem out_head (i : grid0.Coords) (x0 : Vec Ideal S4x128x2048 .f32) :
    out0_5 i x0 = View.canon [⟨r0_14, headV (View.ld x0 r0_12)⟩, ⟨r0_10, headV (View.ld x0 r0_8)⟩,
      ⟨r0_6, headV (View.ld x0 r0_4)⟩, ⟨r0_2, headV (View.ld x0 r0_0)⟩] := by
  unfold_out out0_5
  simp only [headV, probV]
  unfold_payloads
  simp only []

end Cert.KernelIdeal.Block

end
-- ==== Proof.Order.lean ====
/- The first greatest entry of a list of extended reals, the list's stable order from the greatest down, and the rounds that take
   the greatest entry away one at a time: round `k` finds the entry of rank `k`. -/
module

public import Mathlib.Data.EReal.Basic
public import Mathlib.Data.Finset.Lattice.Fold
public import Mathlib.Data.Finset.Fold
public import Idealize.ShloMosaic.PureOps.ShapeOps
public import Idealize.ShloMosaic.Lib.SortFacts

@[expose] public section

noncomputable section

namespace Cert.Sampling

open Idealize.ShloMosaic

variable {n : Nat}

/-! ## The first greatest entry -/

/-- A nonempty list has an entry that none exceeds and that every earlier one is below. -/
theorem exists_firstMax [NeZero n] (f : Fin n → EReal) : ∃ i, (∀ j, f j ≤ f i) ∧ ∀ j, j < i → f j < f i := by
  obtain ⟨m, -, hm⟩ := Finset.exists_max_image Finset.univ f ⟨0, Finset.mem_univ _⟩
  replace hm : ∀ j, f j ≤ f m := fun j => hm j (Finset.mem_univ _)
  let S : Finset (Fin n) := Finset.univ.filter fun i => ∀ j, f j ≤ f i
  have hS : S.Nonempty := ⟨m, Finset.mem_filter.mpr ⟨Finset.mem_univ _, hm⟩⟩
  have hi : ∀ j, f j ≤ f (S.min' hS) := (Finset.mem_filter.mp (S.min'_mem hS)).2
  refine ⟨S.min' hS, hi, fun j hj => lt_of_le_of_ne (hi j) fun e => ?_⟩
  exact absurd (S.min'_le j (Finset.mem_filter.mpr ⟨Finset.mem_univ _, fun k => e ▸ hi k⟩)) (not_le.mpr hj)

/-- The position of the first greatest entry. -/
def firstMax [NeZero n] (f : Fin n → EReal) : Fin n := (exists_firstMax f).choose

/-- No entry exceeds the one there. -/
theorem le_firstMax [NeZero n] (f : Fin n → EReal) (j : Fin n) : f j ≤ f (firstMax f) := (exists_firstMax f).choose_spec.1 j

/-- Every entry before it is less. -/
theorem lt_firstMax [NeZero n] (f : Fin n → EReal) (j : Fin n) (h : j < firstMax f) : f j < f (firstMax f) :=
  (exists_firstMax f).choose_spec.2 j h

/-- Only one position has the two properties. -/
theorem eq_firstMax [NeZero n] (f : Fin n → EReal) (i : Fin n) (h1 : ∀ j, f j ≤ f i) (h2 : ∀ j, j < i → f j < f i) : i = firstMax f := by
  rcases lt_trichotomy i (firstMax f) with h | h | h
  · exact absurd (lt_firstMax f i h) (not_lt.mpr (h1 _))
  · exact h
  · exact absurd (h2 _ h) (not_lt.mpr (le_firstMax f i))

/-- The greatest entry, as a fold of `max` from below. -/
theorem fold_max_eq [NeZero n] (f : Fin n → EReal) : Finset.univ.fold max ⊥ f = f (firstMax f) := by
  refine le_antisymm ?_ ?_
  · rw [Finset.fold_max_le]
    exact ⟨bot_le, fun j _ => le_firstMax f j⟩
  · rw [Finset.le_fold_max]
    exact Or.inr ⟨_, Finset.mem_univ _, le_rfl⟩

/-! ## The stable order -/

/-- `a` comes before `b`: its entry is greater, or equal and at a lower position. -/
def Before (f : Fin n → EReal) (a b : Fin n) : Prop := f b < f a ∨ (f a = f b ∧ a < b)

/-- The order can be decided. -/
instance (f : Fin n → EReal) (a b : Fin n) : Decidable (Before f a b) := by unfold Before; infer_instance

/-- The position of the entry of rank `k` in a stable sort with the greater entry first. -/
def ranked (f : Fin n → EReal) (k : Fin n) : Fin n := sortedFrom (fun a b => decide (f b < f a)) k

/-- Sorting positions in ascending order, to look at the entries only is to look at the positions too where entries are equal. -/
theorem stableSort_before (f : Fin n → EReal) (l : List (Fin n)) (hl : l.Pairwise (· < ·)) :
    stableSort (fun a b => decide (f b < f a)) l = stableSort (fun a b => decide (Before f a b)) l := by
  induction l with
  | nil => rfl
  | cons a l ih =>
    rw [List.pairwise_cons] at hl
    unfold stableSort
    rw [ih hl.2]
    refine insertBefore_congr _ _ a _ fun b hb => decide_eq_decide.mpr ?_
    have hab : a < b := hl.1 b ((perm_stableSort _ l).mem_iff.mp hb)
    exact ⟨Or.inl, fun h => h.elim id fun h' => absurd h'.2 (not_lt.mpr hab.le)⟩

/-- The ranks are those of the order of entries and positions. -/
theorem ranked_eq (f : Fin n → EReal) : ranked f = sortedFrom (fun a b => decide (Before f a b)) := by
  funext k
  have h : sortPositions n (fun a b => decide (f b < f a)) = sortPositions n (fun a b => decide (Before f a b)) :=
    stableSort_before f _ (List.pairwise_lt_finRange n)
  unfold ranked sortedFrom
  simp only [h, List.get_eq_getElem, Fin.val_cast]

/-- Two ranks have two positions. -/
theorem ranked_injective (f : Fin n → EReal) : Function.Injective (ranked f) := sortedFrom_injective _

/-- Every position has a rank. -/
theorem ranked_surjective (f : Fin n → EReal) : Function.Surjective (ranked f) := sortedFrom_surjective _

/-- Of two positions at most one comes before the other. -/
theorem Before.asymm {f : Fin n → EReal} {a b : Fin n} (h : Before f a b) : ¬ Before f b a := by
  rintro (h' | ⟨e', h'⟩) <;> rcases h with h | ⟨e, h⟩
  · exact absurd h (not_lt.mpr h'.le)
  · exact absurd h' (e ▸ lt_irrefl _)
  · exact absurd h (e' ▸ lt_irrefl _)
  · exact absurd h (not_lt.mpr h'.le)

/-- Of two different positions one comes before the other. -/
theorem Before.total {f : Fin n → EReal} {a b : Fin n} (h : a ≠ b) : Before f a b ∨ Before f b a := by
  rcases lt_trichotomy (f a) (f b) with hf | hf | hf
  · exact Or.inr (Or.inl hf)
  · rcases lt_or_gt_of_ne h with hab | hab
    · exact Or.inl (Or.inr ⟨hf, hab⟩)
    · exact Or.inr (Or.inr ⟨hf.symm, hab⟩)
  · exact Or.inl (Or.inl hf)

/-- Coming before is transitive. -/
theorem Before.trans {f : Fin n → EReal} {a b c : Fin n} (h : Before f a b) (h' : Before f b c) : Before f a c := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

/-- A position of lower rank comes before one of higher rank. -/
theorem ranked_before (f : Fin n → EReal) {k l : Fin n} (h : k < l) : Before f (ranked f k) (ranked f l) := by
  have hne : ranked f k ≠ ranked f l := fun e => absurd (ranked_injective f e) h.ne
  refine (Before.total hne).resolve_right fun hb => ?_
  have := sortedFrom_noInversion (fun a b => decide (Before f a b)) (fun a b => decide (Before f a b))
    (fun a b hab => decide_eq_false (Before.asymm (of_decide_eq_true hab))) (fun _ _ hab => hab)
    (fun a b c hab hbc => decide_eq_false fun hac => by
      have hab' := of_decide_eq_false hab
      have hbc' := of_decide_eq_false hbc
      by_cases e : a = b
      · subst e; exact hbc' hac
      · by_cases e' : b = c
        · subst e'; exact hab' hac
        · exact (((Before.total e').resolve_left hbc').trans ((Before.total e).resolve_left hab')).asymm hac) k l h
  rw [← ranked_eq] at this
  exact of_decide_eq_false this hb

/-- Rank zero is the first greatest entry. -/
theorem ranked_zero [NeZero n] (f : Fin n → EReal) : ranked f 0 = firstMax f := by
  refine eq_firstMax f _ (fun j => ?_) fun j hj => ?_ <;> obtain ⟨l, rfl⟩ := ranked_surjective f j
  · rcases eq_or_ne l 0 with rfl | hl
    · exact le_rfl
    · rcases ranked_before f (Fin.pos_iff_ne_zero.mpr hl) with h | h
      · exact h.le
      · exact h.1.ge
  · have hl : l ≠ 0 := fun e => by subst e; exact lt_irrefl _ hj
    rcases ranked_before f (Fin.pos_iff_ne_zero.mpr hl) with h | h
    · exact h
    · exact absurd h.2 (not_lt.mpr hj.le)

/-! ## Taking the greatest away, round by round -/

/-- The list after one round: its first greatest entry sunk to the bottom. -/
def sink [NeZero n] (f : Fin n → EReal) : Fin n → EReal := fun v => if v = firstMax f then ⊥ else f v

/-- The list after `k` rounds. -/
def rounds [NeZero n] (f : Fin n → EReal) : Nat → Fin n → EReal
  | 0 => f
  | k + 1 => sink (rounds f k)

/-- With every entry above the bottom, the list after `k` rounds lacks the entries of the first `k` ranks, and its first greatest
    entry is the one of rank `k`. -/
theorem rounds_spec [NeZero n] (f : Fin n → EReal) (hf : ∀ v, ⊥ < f v) (k : Nat) (hk : k < n) :
    (∀ l : Fin n, rounds f k (ranked f l) = if l.val < k then ⊥ else f (ranked f l)) ∧ firstMax (rounds f k) = ranked f ⟨k, hk⟩ := by
  have key : ∀ k (hk : k < n), (∀ l : Fin n, rounds f k (ranked f l) = if l.val < k then ⊥ else f (ranked f l)) →
      firstMax (rounds f k) = ranked f ⟨k, hk⟩ := by
    intro k hk h
    have hself : rounds f k (ranked f ⟨k, hk⟩) = f (ranked f ⟨k, hk⟩) := by rw [h, if_neg (lt_irrefl k)]
    refine (eq_firstMax _ _ (fun j => ?_) fun j hj => ?_).symm <;> obtain ⟨l, rfl⟩ := ranked_surjective f j <;> rw [hself, h]
    · split
      · exact bot_le
      · rcases eq_or_lt_of_le (not_lt.mp ‹¬ l.val < k›) with e | e
        · have : l = ⟨k, hk⟩ := Fin.ext e.symm
          rw [this]
        · rcases ranked_before f (show (⟨k, hk⟩ : Fin n) < l from e) with h' | h'
          · exact h'.le
          · exact h'.1.ge
    · split
      · exact hf _
      · rcases eq_or_lt_of_le (not_lt.mp ‹¬ l.val < k›) with e | e
        · have : l = ⟨k, hk⟩ := Fin.ext e.symm
          rw [this] at hj
          exact absurd hj (lt_irrefl _)
        · rcases ranked_before f (show (⟨k, hk⟩ : Fin n) < l from e) with h' | h'
          · exact h'
          · exact absurd h'.2 (not_lt.mpr hj.le)
  induction k with
  | zero => exact ⟨fun l => by rw [if_neg (Nat.not_lt_zero _)]; rfl, key 0 hk fun l => by rw [if_neg (Nat.not_lt_zero _)]; rfl⟩
  | succ k ih =>
    obtain ⟨h1, h2⟩ := ih (Nat.lt_of_succ_lt hk)
    have h : ∀ l : Fin n, rounds f (k + 1) (ranked f l) = if l.val < k + 1 then ⊥ else f (ranked f l) := by
      intro l
      show (if ranked f l = firstMax (rounds f k) then ⊥ else rounds f k (ranked f l)) = _
      rw [h2, h1]
      by_cases e : l = ⟨k, Nat.lt_of_succ_lt hk⟩
      · subst e; rw [if_pos rfl, if_pos (Nat.lt_succ_self k)]
      · rw [if_neg fun e' => e (ranked_injective f e')]
        have : l.val ≠ k := fun e' => e (Fin.ext e')
        by_cases hl : l.val < k
        · rw [if_pos hl, if_pos (Nat.lt_succ_of_lt hl)]
        · rw [if_neg hl, if_neg (by omega)]
    exact ⟨h, key _ hk h⟩

/-- Round `k` finds the position of rank `k`. -/
theorem firstMax_rounds [NeZero n] (f : Fin n → EReal) (hf : ∀ v, ⊥ < f v) (k : Fin n) : firstMax (rounds f k) = ranked f k :=
  (rounds_spec f hf k.val k.isLt).2

/-- … and its greatest entry is the entry there. -/
theorem max_rounds [NeZero n] (f : Fin n → EReal) (hf : ∀ v, ⊥ < f v) (k : Fin n) :
    rounds f k (firstMax (rounds f k)) = f (ranked f k) := by
  rw [firstMax_rounds f hf, (rounds_spec f hf k.val k.isLt).1 k, if_neg (lt_irrefl _)]

end Cert.Sampling

end
-- ==== Proof.Spec.lean ====
/- What both programs compute, over the extended reals: a row's probabilities, the counter-based random words and the noise they make,
   the scores and the positions sampled by them. -/
module

public import proofs.«01_k».proof.Proof.Order
public import Idealize.ShloMosaic.PureOps
public import Idealize.ShloMosaic.PureOps.Ideal
public import Mathlib.Data.EReal.Inv
public import Mathlib.Algebra.Order.BigOperators.Group.Finset

@[expose] public section

noncomputable section

namespace Cert.Sampling

open Idealize.ShloMosaic

/-! ## The infinities' patterns -/

/-- The pattern of minus infinity. -/
theorem ofBits_negInf : Ideal.ofBits .f32 0xFF800000#32 = ⊥ := by simp [Ideal.ofBits, Ideal.ieee]

/-- The pattern of infinity. -/
theorem ofBits_posInf : Ideal.ofBits .f32 0x7F800000#32 = ⊤ := by simp [Ideal.ofBits, Ideal.ieee]

/-! ## A row's probabilities -/

/-- The greatest entry of a row. -/
def rowMax (x : Fin 2048 → EReal) : EReal := Finset.univ.fold max ⊥ x

/-- A row's probabilities: each entry's exponential, the greatest entry taken off first, over the sum of them all. -/
def softmax (x : Fin 2048 → EReal) (v : Fin 2048) : EReal :=
  Ideal.div (Ideal.exp (x v - rowMax x)) (∑ w, Ideal.exp (x w - rowMax x))

/-- Their logarithms, a small constant (the pattern is that of 1e-12) added first. -/
def logProb (x : Fin 2048 → EReal) (v : Fin 2048) : EReal := Ideal.log (softmax x v + Ideal.ofBits .f32 0x2B8CBCCC#32)

/-! ## The random words -/

/-- The two words of the cipher's state. -/
abbrev Words : Type := BitVec 32 × BitVec 32

/-- One round: the sum of the words, and the second word turned left by `r` (right by `r'`) and crossed with the sum. -/
def mix (r r' : BitVec 32) (p : Words) : Words :=
  (IntOp.addi p.1 p.2, IntOp.xori (IntOp.ori (IntOp.shli .vector p.2 r) (IntOp.shrui .vector p.2 r')) (IntOp.addi p.1 p.2))

/-- Key words added to the two words. -/
def addKey (a b : BitVec 32) (p : Words) : Words := (IntOp.addi p.1 a, IntOp.addi p.2 b)

/-- The first round, on a state whose first word is zero. -/
def firstRound (x : BitVec 32) : Words :=
  (x, IntOp.xori (IntOp.ori (IntOp.shli .vector x 13#32) (IntOp.shrui .vector x 19#32)) x)

/-- The last three of a group of four rounds of the first kind. -/
def mixThree (p : Words) : Words := mix 6#32 26#32 (mix 26#32 6#32 (mix 15#32 17#32 p))

/-- Four rounds of the second kind. -/
def mixFour (p : Words) : Words := mix 24#32 8#32 (mix 16#32 16#32 (mix 29#32 3#32 (mix 17#32 15#32 p)))

/-- The random word of a counter, which comes with the key's low word added: `k1` and `k2` are the key's words, `k21`, `k13` and `k24`
    the sums the schedule takes of them. -/
def bits (k1 k2 k21 k13 k24 x : BitVec 32) : BitVec 32 :=
  let p := addKey k1 k21 (mixThree (firstRound x))
  let p := addKey k2 2#32 (mixFour p)
  let p := mixThree (mix 13#32 19#32 p)
  let p := mixFour (p.1, IntOp.addi p.2 k13)
  let p := addKey k1 k24 p
  let p := addKey k2 5#32 (mixThree (mix 13#32 19#32 p))
  IntOp.xori p.1 p.2

/-- The uniform draw that a word's high 23 bits make, at least the least positive normal number. -/
def uniform (w : BitVec 32) : EReal :=
  max (Ideal.ofBits .f32 (IntOp.ori (IntOp.shrui .vector w 9#32) 1065353216#32) - 1) (Ideal.ofBits .f32 8388608#32)

/-- The noise of a random word. -/
def noise (w : BitVec 32) : EReal := -Ideal.log (-Ideal.log (uniform w))

/-- The random word number `n` under the key 2. -/
def bitsRows (n : Nat) : BitVec 32 :=
  bits 2#32 466688984#32 466688985#32 5#32 466688988#32 (IntOp.addi (BitVec.ofNat 32 n) 2#32)

/-- The random word number `n` under the key 1. -/
def bitsFirst (n : Nat) : BitVec 32 :=
  bits 1#32 466688987#32 466688988#32 4#32 466688991#32 (IntOp.addi (BitVec.ofNat 32 n) 1#32)

/-! ## The samples -/

/-- The scores of row `m` of batch `b`, whose logits are `x`. -/
def scoreRows (x : Fin 2048 → EReal) (b m : Nat) (v : Fin 2048) : EReal :=
  logProb x v + noise (bitsRows (b * 262144 + m * 2048 + v.val))

/-- The scores of sample `s` of batch `b`, whose first row's logits are `x`. -/
def scoreFirst (x : Fin 2048 → EReal) (b s : Nat) (v : Fin 2048) : EReal :=
  logProb x v + noise (bitsFirst (b * 131072 + s * 2048 + v.val))

/-- The position sampled for row `m`. -/
def pickRows (x : Fin 2048 → EReal) (b m : Nat) : Fin 2048 := firstMax (scoreRows x b m)

/-- The position of sample `s`. -/
def pickFirst (x : Fin 2048 → EReal) (b s : Nat) : Fin 2048 := firstMax (scoreFirst x b s)

/-! ## Where a row's probabilities are numbers -/

/-- The exponential is never negative. -/
theorem exp_nonneg (x : EReal) : 0 ≤ Ideal.exp x := by
  induction x using EReal.rec with
  | bot => exact le_rfl
  | top => exact le_top
  | coe r => exact EReal.coe_nonneg.mpr (Real.exp_pos r).le

/-- With a finite greatest entry, no probability is below zero. -/
theorem softmax_nonneg (x : Fin 2048 → EReal) (hb : rowMax x ≠ ⊥) (ht : rowMax x ≠ ⊤) (v : Fin 2048) : 0 ≤ softmax x v := by
  have hmax : rowMax x = x (firstMax x) := fold_max_eq x
  have hone : Ideal.exp (x (firstMax x) - rowMax x) = 1 := by
    rw [← hmax, EReal.sub_self ht hb]
    show ((Real.exp 0 : ℝ) : EReal) = 1
    rw [Real.exp_zero]; rfl
  have hsum : (1 : EReal) ≤ ∑ w, Ideal.exp (x w - rowMax x) := by
    rw [← hone]
    exact Finset.single_le_sum (f := fun w => Ideal.exp (x w - rowMax x)) (fun w _ => exp_nonneg _) (Finset.mem_univ _)
  have hne : ∑ w, Ideal.exp (x w - rowMax x) ≠ 0 := fun h => by
    rw [h] at hsum
    exact absurd hsum (not_le.mpr one_pos)
  unfold softmax Ideal.div
  rw [if_neg hne]
  exact mul_nonneg (exp_nonneg _) (EReal.inv_nonneg_of_nonneg (le_trans zero_le_one hsum))

/-- So none is at the bottom. -/
theorem bot_lt_softmax (x : Fin 2048 → EReal) (hb : rowMax x ≠ ⊥) (ht : rowMax x ≠ ⊤) (v : Fin 2048) : ⊥ < softmax x v :=
  lt_of_lt_of_le EReal.bot_lt_zero (softmax_nonneg x hb ht v)

end Cert.Sampling

end
-- ==== Proof.Folds.lean ====
/- Sums and least words over the positions of a row: a sum with one entry kept, the least position of the greatest entry, and a long sum
   taken by strides. -/
module

public import proofs.«01_k».proof.Proof.Order
public import Idealize.ShloMosaic.PureOps
public import Idealize.ShloMosaic.Lib.SortNet.Extract
public import Mathlib.Algebra.BigOperators.Fin
public import Mathlib.Data.EReal.Operations
public import Mathlib.Data.BitVec
public import Mathlib.Tactic.Abel

@[expose] public section

noncomputable section

namespace Cert.Sampling

open Idealize.ShloMosaic

/-! ## One entry kept -/

/-- Two positions below `2^32` are equal as words exactly when they are equal. -/
theorem cmpi_eq_ofNat (a b : Nat) (ha : a < 2 ^ 32) (hb : b < 2 ^ 32) :
    IntOp.cmpi .eq (BitVec.ofNat 32 a) (BitVec.ofNat 32 b) = BitVec.ofBool (decide (a = b)) := by
  unfold IntOp.cmpi
  congr 1
  by_cases h : a = b
  · subst h; simp
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp [h, this]

/-- A choice by equality of positions, as words. -/
theorem select_eq_ofNat {α : Type} (a b : Nat) (ha : a < 2 ^ 32) (hb : b < 2 ^ 32) (x y : α) :
    Scalar.select (IntOp.cmpi .eq (BitVec.ofNat 32 a) (BitVec.ofNat 32 b)) x y = if a = b then x else y := by
  rw [cmpi_eq_ofNat a b ha hb]
  by_cases h : a = b <;> simp [Scalar.select, h]

/-- A sum whose every entry but one is zeroed is that entry. -/
theorem sum_keep {n : Nat} (hn : n ≤ 2 ^ 32) (f : Fin n → EReal) (i : Fin n) :
    ∑ k : Fin n, Scalar.select (IntOp.cmpi .eq (BitVec.ofNat 32 k.val) (BitVec.ofNat 32 i.val)) (f k) 0 = f i := by
  have h : ∀ k : Fin n, Scalar.select (IntOp.cmpi .eq (BitVec.ofNat 32 k.val) (BitVec.ofNat 32 i.val)) (f k) 0 = if k = i then f k else 0 := by
    intro k
    rw [select_eq_ofNat _ _ (by omega) (by omega)]
    simp only [Fin.ext_iff]
  rw [Finset.sum_congr rfl fun k _ => h k, Finset.sum_ite_eq' Finset.univ i f, if_pos (Finset.mem_univ i)]

/-- The same for words. -/
theorem fold_addi_keep {n : Nat} (hn : n ≤ 2 ^ 32) (f : Fin n → BitVec 32) (i : Fin n) :
    Finset.univ.fold IntOp.addi 0#32
      (fun k : Fin n => Scalar.select (IntOp.cmpi .eq (BitVec.ofNat 32 k.val) (BitVec.ofNat 32 i.val)) (f k) 0#32) = f i := by
  have h : ∀ k : Fin n, Scalar.select (IntOp.cmpi .eq (BitVec.ofNat 32 k.val) (BitVec.ofNat 32 i.val)) (f k) 0#32
      = if k = i then f k else 0 := by
    intro k
    rw [select_eq_ofNat _ _ (by omega) (by omega)]
    simp only [Fin.ext_iff]
    rfl
  rw [Finset.fold_congr fun k _ => h k]
  show ∑ k : Fin n, (if k = i then f k else 0) = f i
  rw [Finset.sum_ite_eq' Finset.univ i f, if_pos (Finset.mem_univ i)]

/-! ## The least position of the greatest entry -/

/-- The least word over a row that holds its position where the entry is the greatest, and 2048 elsewhere. -/
theorem fold_minsi_firstMax (f : Fin 2048 → EReal) :
    Finset.univ.fold IntOp.minsi 2147483647#32
      (fun k : Fin 2048 => if f k = Finset.univ.fold max ⊥ f then BitVec.ofNat 32 k.val else 2048#32)
      = BitVec.ofNat 32 (firstMax f).val := by
  rw [fold_max_eq]
  have hint : ∀ k : Nat, k ≤ 2048 → (BitVec.ofNat 32 k).toInt = (k : Int) := fun k hk => by
    rw [BitVec.toInt_eq_toNat_bmod, BitVec.toNat_ofNat, Nat.mod_eq_of_lt (by omega)]
    exact Int.bmod_eq_of_le (by omega) (by omega)
  apply BitVec.eq_of_toInt_eq
  rw [hint _ (by omega), ← Finset.fold_hom (op' := min) (f := fun k : Fin 2048 => _) (fun x y : BitVec 32 => SortNet.toInt_minsi x y)]
  have hv : ∀ k : Fin 2048, (if f k = f (firstMax f) then BitVec.ofNat 32 k.val else 2048#32).toInt
      = if f k = f (firstMax f) then (k.val : Int) else 2048 := fun k => by
    split
    · exact hint _ (by omega)
    · exact hint 2048 le_rfl
  simp only [hv]
  refine le_antisymm ?_ ?_
  · rw [Finset.fold_min_le]
    exact Or.inr ⟨firstMax f, Finset.mem_univ _, by rw [if_pos rfl]⟩
  · rw [Finset.le_fold_min]
    refine ⟨by have := (firstMax f).isLt; show ((firstMax f).val : Int) ≤ 2147483647; omega, fun k _ => ?_⟩
    split
    · rename_i h
      have : ¬ k < firstMax f := fun hk => absurd h (lt_firstMax f k hk).ne
      have := Fin.not_lt.mp this
      exact_mod_cast this
    · have := (firstMax f).isLt; omega

/-! ## A long sum by strides -/

/-- Position `v` of stride `k`, of `m` strides of `n`. -/
def strided {m n : Nat} (k : Fin m) (v : Fin n) : Fin (m * n) :=
  ⟨n * k.val + v.val, lt_of_lt_of_le (Nat.add_lt_add_left v.isLt _) (by rw [← Nat.mul_succ, Nat.mul_comm m n]; exact Nat.mul_le_mul_left n k.isLt)⟩

/-- A sum over `m * n` positions is the sum over the `n` residues of the sums over their strides. -/
theorem sum_strides (m n : Nat) (g : Fin (m * n) → EReal) : ∑ i, g i = ∑ v : Fin n, ∑ k : Fin m, g (strided k v) := by
  rw [← finProdFinEquiv.sum_comp, Fintype.sum_prod_type, Finset.sum_comm]
  refine Finset.sum_congr rfl fun v _ => Finset.sum_congr rfl fun k _ => congrArg g (Fin.ext ?_)
  show v.val + n * k.val = n * k.val + v.val
  exact Nat.add_comm _ _

/-- A sum of sixteen terms, written out. -/
theorem sum_sixteen (g : Fin 16 → EReal) :
    ∑ k, g k = g 0 + g 1 + g 2 + g 3 + g 4 + g 5 + g 6 + g 7 + g 8 + g 9 + g 10 + g 11 + g 12 + g 13 + g 14 + g 15 := by
  simp only [Fin.sum_univ_castSucc, Finset.univ_eq_empty, Finset.sum_empty, zero_add]
  rfl

/-- Eight terms added by halves of the even and of the odd places. -/
theorem sum_halves (g : Fin 8 → EReal) :
    ∑ k, g k = (g 0 + g 4) + (g 2 + g 6) + ((g 1 + g 5) + (g 3 + g 7)) := by
  rw [Fin.sum_univ_eight]
  abel

end Cert.Sampling

end
-- ==== Proof.BlockRead.lean ====
/- The first kernel's vectors of one batch, read at an index: they are the specification's values. -/
module

public import proofs.«01_k».proof.Proof.Block
public import proofs.«01_k».proof.Proof.Spec
public import proofs.«01_k».proof.Proof.Folds

@[expose] public section

noncomputable section

namespace Cert.KernelIdeal.Block

open Idealize.ShloMosaic Idealize.SL.Sem Cert.KernelIdeal Cert.KernelIdeal.Gen Cert.Sampling

/-! ## The random words and the noise -/

/-- The cipher's state at an index. -/
def Pair.get {s : Shape} (p : Pair s) (i : s.Idx) : Words := (p.1 i, p.2 i)

/-- A round acts index by index. -/
theorem get_mixV {s : Shape} (r r' : BitVec 32) (p : Pair s) (i : s.Idx) : Pair.get (mixV r r' p) i = mix r r' (Pair.get p i) := rfl

/-- The addition of key words acts index by index. -/
theorem get_addKeyV {s : Shape} (a b : BitVec 32) (p : Pair s) (i : s.Idx) : Pair.get (addKeyV a b p) i = addKey a b (Pair.get p i) := rfl

/-- The first round acts index by index. -/
theorem get_firstV {s : Shape} (x : IVec s 32) (i : s.Idx) : Pair.get (firstV x) i = firstRound (x i) := rfl

/-- Three rounds act index by index. -/
theorem get_mixThreeV {s : Shape} (p : Pair s) (i : s.Idx) : Pair.get (mixThreeV p) i = mixThree (Pair.get p i) := rfl

/-- Four rounds act index by index. -/
theorem get_mixFourV {s : Shape} (p : Pair s) (i : s.Idx) : Pair.get (mixFourV p) i = mixFour (Pair.get p i) := rfl

/-- An addition to the second word acts index by index. -/
theorem get_addSecond {s : Shape} (a : BitVec 32) (p : Pair s) (i : s.Idx) :
    Pair.get (p.1, addi p.2 (broadcast s a)) i = ((Pair.get p i).1, IntOp.addi (Pair.get p i).2 a) := rfl

/-- The exclusive or of the two words acts index by index. -/
theorem get_xori {s : Shape} (p : Pair s) (i : s.Idx) : xori p.1 p.2 i = IntOp.xori (Pair.get p i).1 (Pair.get p i).2 := rfl

/-- The random words of a vector of counters are those of its entries. -/
theorem bitsV_apply {s : Shape} (k1 k2 k21 k13 k24 : BitVec 32) (x : IVec s 32) (i : s.Idx) :
    bitsV k1 k2 k21 k13 k24 x i = bits k1 k2 k21 k13 k24 (x i) := by
  unfold bitsV bits
  simp only [get_xori, get_addKeyV, get_mixV, get_mixThreeV, get_mixFourV, get_addSecond, get_firstV]

/-- So is their noise. -/
theorem noiseV_apply {s : Shape} (w : IVec s 32) (i : s.Idx) : noiseV w i = noise (w i) := by
  unfold noise uniform
  pointwise [noiseV, zero_sub]

/-- The counter of row `r` and position `v`, the key's low word added. -/
theorem counterRows_apply (b : Nat) (r : Fin 128) (v : Fin 2048) :
    k0_pay8 (BitVec.ofNat 32 b) (ix2 r v) = IntOp.addi (BitVec.ofNat 32 (b * 262144 + r.val * 2048 + v.val)) 2#32 := by
  unfold k0_pay8
  pointwise [Scalar.muli, IntOp.addi, IntOp.muli, BitVec.ofNat_add, BitVec.ofNat_mul]

/-- The counter of sample `r` and position `v`, the key's low word added. -/
theorem counterFirst_apply (b : Nat) (r : Fin 64) (v : Fin 2048) :
    k0_pay62 (BitVec.ofNat 32 b) (ix2 r v) = IntOp.addi (BitVec.ofNat 32 (b * 131072 + r.val * 2048 + v.val)) 1#32 := by
  unfold k0_pay62
  pointwise [Scalar.muli, IntOp.addi, IntOp.muli, BitVec.ofNat_add, BitVec.ofNat_mul]

/-! ## The probabilities -/

/-- Row `r` of a batch. -/
def row (x : Vec Ideal S1x128x2048 .f32) (r : Fin 128) (v : Fin 2048) : EReal := x (ix3 0 r v)

/-- The exponentials of a row, its greatest entry taken off. -/
theorem exps_apply (x : Vec Ideal S1x128x2048 .f32) (r : Fin 128) (v : Fin 2048) :
    k0_pay3 x (ix2 r v) = Ideal.exp (row x r v - rowMax (row x r)) := by
  unfold k0_pay3 rowMax row
  pointwise [ofBits_negInf]

/-- The sixteen strips of 128 positions, added. -/
theorem strips_apply (x : Vec Ideal S1x128x2048 .f32) (r : Fin 128) (l : Fin 128) :
    k0_pay4 x (ix2 r l) = ∑ k : Fin 16, k0_pay3 x (ix2 r (strided (m := 16) k l)) := by
  have h0 : (strided (m := 16) 0 l : Fin 2048) = ⟨l.val, by omega⟩ := Fin.ext (by simp [strided])
  rw [sum_sixteen, h0]
  unfold k0_pay4
  pointwise []
  rfl

/-- The quotient by the whole sum, which the strips' 128 sums are added up to by strides of eight and then by halves. -/
theorem probV_eq (x : Vec Ideal S1x128x2048 .f32) (r : Fin 128) (v : Fin 2048) :
    probV x (ix2 r v) = Ideal.div (k0_pay3 x (ix2 r v)) (∑ l : Fin 128, k0_pay4 x (ix2 r l)) := by
  rw [sum_strides 16 8 fun l : Fin 128 => k0_pay4 x (ix2 r l), sum_halves]
  simp only [sum_sixteen]
  unfold probV k0_pay6 k0_pay5
  pointwise []
  rfl

/-- The probabilities. -/
theorem probV_apply (x : Vec Ideal S1x128x2048 .f32) (r : Fin 128) (v : Fin 2048) : probV x (ix2 r v) = softmax (row x r) v := by
  rw [probV_eq, exps_apply]
  unfold softmax
  congr 1
  rw [sum_strides 16 128 fun w : Fin 2048 => Ideal.exp (row x r w - rowMax (row x r))]
  refine Finset.sum_congr rfl fun l _ => ?_
  rw [strips_apply]
  exact Finset.sum_congr rfl fun k _ => exps_apply x r _

/-- Their logarithms. -/
theorem logV_apply (x : Vec Ideal S1x128x2048 .f32) (r : Fin 128) (v : Fin 2048) : logV x (ix2 r v) = logProb (row x r) v := by
  unfold logProb
  rw [← probV_apply]
  unfold logV k0_pay7 probV
  pointwise []

/-! ## The samples -/

/-- The scores of every row: the logarithm of the raised probability plus the noise of the entry's counter. -/
theorem scoreRowsV_apply (x : Vec Ideal S1x128x2048 .f32) (b : Nat) (r : Fin 128) (v : Fin 2048) :
    scoreRowsV x (BitVec.ofNat 32 b) (ix2 r v) = scoreRows (row x r) b r.val v := by
  unfold scoreRows bitsRows
  pointwise [scoreRowsV, noiseV_apply, bitsV_apply, counterRows_apply, logV_apply]

/-- The scores of the first row's 64 samples. -/
theorem scoreFirstV_apply (x : Vec Ideal S1x128x2048 .f32) (b : Nat) (s : Fin 64) (v : Fin 2048) :
    scoreFirstV x (BitVec.ofNat 32 b) (ix2 s v) = scoreFirst (row x 0) b s.val v := by
  unfold scoreFirst bitsFirst
  pointwise [scoreFirstV, noiseV_apply, bitsV_apply, counterFirst_apply, logV_apply]

/-- The column of picked positions, 128 rows. -/
theorem pickRowsV_apply (f : FVec Ideal S128x2048 .f32) (r : Fin 128) :
    pickRowsV f (ix2 r 0) = BitVec.ofNat 32 (firstMax fun v => f (ix2 r v)).val := by
  rw [← fold_minsi_firstMax]
  pointwise [pickRowsV, ofBits_negInf]

/-- The column of picked positions, 64 rows. -/
theorem pickFirstV_apply (f : FVec Ideal S64x2048 .f32) (r : Fin 64) :
    pickFirstV f (ix2 r 0) = BitVec.ofNat 32 (firstMax fun v => f (ix2 r v)).val := by
  rw [← fold_minsi_firstMax]
  pointwise [pickFirstV, ofBits_negInf]

/-- The column of entries at given positions, 128 rows. -/
theorem atRowsV_apply (p : FVec Ideal S128x2048 .f32) (c : IVec S128x1 32) (r : Fin 128) (i : Fin 2048)
    (hc : c (ix2 r 0) = BitVec.ofNat 32 i.val) : atRowsV p c (ix2 r 0) = p (ix2 r i) := by
  rw [← sum_keep (by norm_num) (fun v => p (ix2 r v)) i]
  pointwise [atRowsV, hc]

/-- The column of entries of the first row at given positions, 64 of them. -/
theorem atFirstV_apply (p : FVec Ideal S128x2048 .f32) (c : IVec S64x1 32) (r : Fin 64) (i : Fin 2048)
    (hc : c (ix2 r 0) = BitVec.ofNat 32 i.val) : atFirstV p c (ix2 r 0) = p (ix2 0 i) := by
  rw [← sum_keep (by norm_num) (fun v => p (ix2 0 v)) i]
  pointwise [atFirstV, hc]

/-- A column of 128 positions turned into a row. -/
theorem turnRowsI_apply (c : IVec S128x1 32) (r : Fin 128) : turnRowsI c (ix3 0 0 r) = c (ix2 r 0) := by
  rw [← fold_addi_keep (by norm_num) (fun k : Fin 128 => c (ix2 k 0)) r]
  pointwise [turnRowsI]

/-- A column of 128 probabilities turned into a row. -/
theorem turnRowsF_apply (c : FVec Ideal S128x1 .f32) (r : Fin 128) : turnRowsF c (ix3 0 0 r) = c (ix2 r 0) := by
  rw [← sum_keep (by norm_num) (fun k : Fin 128 => c (ix2 k 0)) r]
  pointwise [turnRowsF]

/-- A column of 64 positions turned into a row. -/
theorem turnFirstI_apply (c : IVec S64x1 32) (r : Fin 64) : turnFirstI c (ix3 0 0 r) = c (ix2 r 0) := by
  rw [← fold_addi_keep (by norm_num) (fun k : Fin 64 => c (ix2 k 0)) r]
  pointwise [turnFirstI]

/-- A column of 64 probabilities turned into a row. -/
theorem turnFirstF_apply (c : FVec Ideal S64x1 .f32) (r : Fin 64) : turnFirstF c (ix3 0 0 r) = c (ix2 r 0) := by
  rw [← sum_keep (by norm_num) (fun k : Fin 64 => c (ix2 k 0)) r]
  unfold turnFirstF k0_pay2
  pointwise []

/-! ## The stored vectors -/

/-- The positions sampled for the rows of batch `b`. -/
theorem selRowsV_apply (x : Vec Ideal S1x128x2048 .f32) (b : Nat) (r : Fin 128) :
    selRowsV x (BitVec.ofNat 32 b) (ix3 0 0 r) = BitVec.ofNat 32 (pickRows (row x r) b r.val).val := by
  unfold selRowsV pickRows
  rw [turnRowsI_apply, pickRowsV_apply]
  simp only [scoreRowsV_apply]

/-- The probabilities there. -/
theorem valRowsV_apply (x : Vec Ideal S1x128x2048 .f32) (b : Nat) (r : Fin 128) :
    valRowsV x (BitVec.ofNat 32 b) (ix3 0 0 r) = softmax (row x r) (pickRows (row x r) b r.val) := by
  unfold valRowsV
  rw [turnRowsF_apply, atRowsV_apply _ _ r (pickRows (row x r) b r.val), probV_apply]
  unfold pickRows
  rw [pickRowsV_apply]
  simp only [scoreRowsV_apply]

/-- The positions sampled from the first row of batch `b`. -/
theorem selFirstV_apply (x : Vec Ideal S1x128x2048 .f32) (b : Nat) (s : Fin 64) :
    selFirstV x (BitVec.ofNat 32 b) (ix3 0 0 s) = BitVec.ofNat 32 (pickFirst (row x 0) b s.val).val := by
  unfold selFirstV pickFirst
  rw [turnFirstI_apply, pickFirstV_apply]
  simp only [scoreFirstV_apply]

/-- The probabilities there. -/
theorem valFirstV_apply (x : Vec Ideal S1x128x2048 .f32) (b : Nat) (s : Fin 64) :
    valFirstV x (BitVec.ofNat 32 b) (ix3 0 0 s) = softmax (row x 0) (pickFirst (row x 0) b s.val) := by
  unfold valFirstV
  rw [turnFirstF_apply, atFirstV_apply _ _ s (pickFirst (row x 0) b s.val), probV_apply]
  unfold pickFirst
  rw [pickFirstV_apply]
  simp only [scoreFirstV_apply]

/-- The first row of probabilities. -/
theorem headV_apply (x : Vec Ideal S1x128x2048 .f32) (v : Fin 2048) : headV x (ix3 0 0 v) = softmax (row x 0) v := by
  rw [← probV_apply]
  unfold headV k0_pay59
  pointwise []

end Cert.KernelIdeal.Block

end
-- ==== Proof.Arrays.lean ====
/- The arrays the first kernel leaves: each entry is the specification's value of the logits of its batch. -/
module

public import proofs.«01_k».proof.Proof.BlockRead

@[expose] public section

noncomputable section

namespace Cert.KernelIdeal.Arrays

open Idealize.ShloMosaic Idealize.ShloMosaic.TcCoe Idealize.SL.Sem Cert.KernelIdeal Cert.KernelIdeal.Gen Cert.KernelIdeal.Block Cert.Sampling

/-- Row `r` of batch `b` of an array of batches. -/
def rowOf {n : Nat} (X : Vec Ideal ⟨3, ![n, 128, 2048]⟩ .f32) (b : Fin n) (r : Fin 128) : Fin 2048 → EReal := fun v => X (ix3 b r v)

/-- The positions sampled from every row, one batch being number `o` plus its place among the `n`. -/
def selRows {n : Nat} (o : Nat) (X : Vec Ideal ⟨3, ![n, 128, 2048]⟩ .f32) : Vec Ideal ⟨3, ![n, 1, 128]⟩ .i32 :=
  fun i => BitVec.ofNat 32 (pickRows (rowOf X (i 0) (i 2)) (o + (i 0).val) (i 2).val).val

/-- Their probabilities. -/
def valRows {n : Nat} (o : Nat) (X : Vec Ideal ⟨3, ![n, 128, 2048]⟩ .f32) : Vec Ideal ⟨3, ![n, 1, 128]⟩ .f32 :=
  fun i => softmax (rowOf X (i 0) (i 2)) (pickRows (rowOf X (i 0) (i 2)) (o + (i 0).val) (i 2).val)

/-- The positions sampled from the first rows. -/
def selFirst {n : Nat} (o : Nat) (X : Vec Ideal ⟨3, ![n, 128, 2048]⟩ .f32) : Vec Ideal ⟨3, ![n, 1, 64]⟩ .i32 :=
  fun i => BitVec.ofNat 32 (pickFirst (rowOf X (i 0) 0) (o + (i 0).val) (i 2).val).val

/-- Their probabilities. -/
def valFirst {n : Nat} (o : Nat) (X : Vec Ideal ⟨3, ![n, 128, 2048]⟩ .f32) : Vec Ideal ⟨3, ![n, 1, 64]⟩ .f32 :=
  fun i => softmax (rowOf X (i 0) 0) (pickFirst (rowOf X (i 0) 0) (o + (i 0).val) (i 2).val)

/-- The probabilities of the first rows. -/
def head {n : Nat} (X : Vec Ideal ⟨3, ![n, 128, 2048]⟩ .f32) : Vec Ideal ⟨3, ![n, 1, 2048]⟩ .f32 :=
  fun i => softmax (rowOf X (i 0) 0) (i 2)

/-- The number of a block's batch as the kernel computes it. -/
theorem batchWord_eq (i : grid0.Coords) (j : Nat) : batchWord i (BitVec.ofNat 32 j) = BitVec.ofNat 32 (4 * (i 0).val + j) := by
  unfold batchWord
  show BitVec.ofNat 32 (i 0).val * BitVec.ofNat 32 4 + BitVec.ofNat 32 j = _
  rw [Nat.mul_comm, BitVec.ofNat_add, BitVec.ofNat_mul]

/-- A row of one batch loaded out of a block is that row of the block. -/
theorem row_ld (x : Vec Ideal S4x128x2048 .f32) (j : Fin 4) (h) (r : Fin 128) :
    row (View.ld x (Rect.unit (s := S4x128x2048) ![j.val, 0, 0] S1x128x2048.size h)) r = rowOf x j r := by
  funext v
  refine congrArg x (funext fun a => Fin.ext ?_)
  match a with
  | ⟨0, _⟩ => rfl
  | ⟨1, _⟩ => show 0 + 1 * r.val = r.val; omega
  | ⟨2, _⟩ => show 0 + 1 * v.val = v.val; omega

/-- An index of a one-batch piece, placed in its block. -/
theorem emb_piece {n : Nat} (j : Fin 4) (h) (y : (⟨3, ![1, 1, n]⟩ : Shape).Idx) :
    (Rect.unit (s := ⟨3, ![4, 1, n]⟩) ![j.val, 0, 0] (⟨3, ![1, 1, n]⟩ : Shape).size h).emb y = ix3 j 0 (y 2) := by
  funext a
  apply Fin.ext
  have h0 : (y 0 : Nat) = 0 := Nat.lt_one_iff.mp (y 0).isLt
  have h1 : (y 1 : Nat) = 0 := Nat.lt_one_iff.mp (y 1).isLt
  rw [Rect.emb_apply]
  match a with
  | ⟨0, _⟩ => show j.val + 1 * (y 0 : Nat) = j.val; rw [h0]; rfl
  | ⟨1, _⟩ => show 0 + 1 * (y 1 : Nat) = 0; rw [h1]
  | ⟨2, _⟩ => show 0 + 1 * (y 2 : Nat) = (y 2 : Nat); omega

/-- A piece's own index by its last coordinate. -/
theorem eq_piece {n : Nat} (y : (⟨3, ![1, 1, n]⟩ : Shape).Idx) : y = ix3 0 0 (y 2) := by
  funext a
  apply Fin.ext
  match a with
  | ⟨0, _⟩ => exact Nat.lt_one_iff.mp (y 0).isLt
  | ⟨1, _⟩ => exact Nat.lt_one_iff.mp (y 1).isLt
  | ⟨2, _⟩ => rfl

/-- An index of a block of four one-row batches. -/
theorem eq_block {n m : Nat} (y : (⟨3, ![m, 1, n]⟩ : Shape).Idx) : y = ix3 (y 0) 0 (y 2) := by
  funext a
  apply Fin.ext
  match a with
  | ⟨0, _⟩ => rfl
  | ⟨1, _⟩ => exact Nat.lt_one_iff.mp (y 1).isLt
  | ⟨2, _⟩ => rfl

variable (i : grid0.Coords) (x : Vec Ideal S4x128x2048 .f32)

/-- The positions sampled in one batch's rows are that batch's part of the block's positions. -/
theorem piece_selRows (j : Fin 4) (o : Nat) (ho : o = j.val) (w : BitVec 32) (hw : w = BitVec.ofNat 32 j.val) (h h') (y : S1x1x128.Idx) :
    selRowsV (View.ld x (Rect.unit (s := S4x128x2048) ![o, 0, 0] S1x128x2048.size h)) (batchWord i w) y
      = selRows (4 * (i 0).val) x ((Rect.unit (s := S4x1x128) ![o, 0, 0] S1x1x128.size h').emb y) := by
  subst ho
  obtain ⟨r, rfl⟩ : ∃ r : Fin 128, y = ix3 0 0 r := ⟨y 2, eq_piece y⟩
  subst hw
  rw [emb_piece, batchWord_eq, selRowsV_apply, row_ld]; rfl

/-- The same of the probabilities sampled in every row. -/
theorem piece_valRows (j : Fin 4) (o : Nat) (ho : o = j.val) (w : BitVec 32) (hw : w = BitVec.ofNat 32 j.val) (h h') (y : S1x1x128.Idx) :
    valRowsV (View.ld x (Rect.unit (s := S4x128x2048) ![o, 0, 0] S1x128x2048.size h)) (batchWord i w) y
      = valRows (4 * (i 0).val) x ((Rect.unit (s := S4x1x128) ![o, 0, 0] S1x1x128.size h').emb y) := by
  subst ho
  obtain ⟨r, rfl⟩ : ∃ r : Fin 128, y = ix3 0 0 r := ⟨y 2, eq_piece y⟩
  subst hw
  rw [emb_piece, batchWord_eq, valRowsV_apply, row_ld]; rfl

/-- The same of the positions sampled in the first row. -/
theorem piece_selFirst (j : Fin 4) (o : Nat) (ho : o = j.val) (w : BitVec 32) (hw : w = BitVec.ofNat 32 j.val) (h h') (y : S1x1x64.Idx) :
    selFirstV (View.ld x (Rect.unit (s := S4x128x2048) ![o, 0, 0] S1x128x2048.size h)) (batchWord i w) y
      = selFirst (4 * (i 0).val) x ((Rect.unit (s := S4x1x64) ![o, 0, 0] S1x1x64.size h').emb y) := by
  subst ho
  obtain ⟨r, rfl⟩ : ∃ r : Fin 64, y = ix3 0 0 r := ⟨y 2, eq_piece y⟩
  subst hw
  rw [emb_piece, batchWord_eq, selFirstV_apply, row_ld]; rfl

/-- The same of the probabilities sampled in the first row. -/
theorem piece_valFirst (j : Fin 4) (o : Nat) (ho : o = j.val) (w : BitVec 32) (hw : w = BitVec.ofNat 32 j.val) (h h') (y : S1x1x64.Idx) :
    valFirstV (View.ld x (Rect.unit (s := S4x128x2048) ![o, 0, 0] S1x128x2048.size h)) (batchWord i w) y
      = valFirst (4 * (i 0).val) x ((Rect.unit (s := S4x1x64) ![o, 0, 0] S1x1x64.size h').emb y) := by
  subst ho
  obtain ⟨r, rfl⟩ : ∃ r : Fin 64, y = ix3 0 0 r := ⟨y 2, eq_piece y⟩
  subst hw
  rw [emb_piece, batchWord_eq, valFirstV_apply, row_ld]; rfl

/-- The first row's probabilities are that batch's part of the block's. -/
theorem piece_head (j : Fin 4) (o : Nat) (ho : o = j.val) (h h') (y : S1x1x2048.Idx) :
    headV (View.ld x (Rect.unit (s := S4x128x2048) ![o, 0, 0] S1x128x2048.size h)) y
      = head x ((Rect.unit (s := S4x1x2048) ![o, 0, 0] S1x1x2048.size h').emb y) := by
  subst ho
  obtain ⟨r, rfl⟩ : ∃ r : Fin 2048, y = ix3 0 0 r := ⟨y 2, eq_piece y⟩
  rw [emb_piece, headV_apply, row_ld]; rfl

/-- Four pieces that all agree with one function and cover the block are that function. -/
theorem canon_four {S : Shape} {e : EltTy} (G : Vec Ideal S e) (r0 r1 r2 r3 : Rect S) (w0 : r0.shape.Idx → Elt Ideal e)
    (w1 : r1.shape.Idx → Elt Ideal e) (w2 : r2.shape.Idx → Elt Ideal e) (w3 : r3.shape.Idx → Elt Ideal e)
    (h0 : ∀ z, w0 z = G (r0.emb z)) (h1 : ∀ z, w1 z = G (r1.emb z)) (h2 : ∀ z, w2 z = G (r2.emb z)) (h3 : ∀ z, w3 z = G (r3.emb z))
    (hc : ∀ y, ∃ p ∈ ([⟨r0, w0⟩, ⟨r1, w1⟩, ⟨r2, w2⟩, ⟨r3, w3⟩] : List (View.Piece (Elt Ideal) S e)), y ∈ p.1.set) :
    View.canon ([⟨r0, w0⟩, ⟨r1, w1⟩, ⟨r2, w2⟩, ⟨r3, w3⟩] : List (View.Piece (Elt Ideal) S e)) = G := by
  funext y
  refine View.canon_apply_of_pieces G _ (fun q hq => ?_) y (hc y)
  simp only [List.mem_cons, List.not_mem_nil, or_false] at hq
  rcases hq with rfl | rfl | rfl | rfl
  · exact h0
  · exact h1
  · exact h2
  · exact h3

/-- What the body leaves of sampled positions, as one function of its block. -/
theorem block_selRows : out0_1 i x = selRows (4 * (i 0).val) x := by
  rw [out_selRows]
  exact canon_four (selRows (4 * (i 0).val) x) _ _ _ _ _ _ _ _ (piece_selRows i x 3 3 rfl 3#32 rfl _ inb_S4x1x128_S1x1x128_3_0_0)
    (piece_selRows i x 2 2 rfl 2#32 rfl _ inb_S4x1x128_S1x1x128_2_0_0) (piece_selRows i x 1 1 rfl 1#32 rfl _ inb_S4x1x128_S1x1x128_1_0_0)
    (piece_selRows i x 0 0 rfl 0#32 rfl _ inb_S4x1x128_S1x1x128_0_0_0) (cover0_1 _ _ _ _)

/-- Of their probabilities. -/
theorem block_valRows : out0_2 i x = valRows (4 * (i 0).val) x := by
  rw [out_valRows]
  exact canon_four (valRows (4 * (i 0).val) x) _ _ _ _ _ _ _ _ (piece_valRows i x 3 3 rfl 3#32 rfl _ inb_S4x1x128_S1x1x128_3_0_0)
    (piece_valRows i x 2 2 rfl 2#32 rfl _ inb_S4x1x128_S1x1x128_2_0_0) (piece_valRows i x 1 1 rfl 1#32 rfl _ inb_S4x1x128_S1x1x128_1_0_0)
    (piece_valRows i x 0 0 rfl 0#32 rfl _ inb_S4x1x128_S1x1x128_0_0_0) (cover0_2 _ _ _ _)

/-- Of the positions sampled from first rows. -/
theorem block_selFirst : out0_3 i x = selFirst (4 * (i 0).val) x := by
  rw [out_selFirst]
  exact canon_four (selFirst (4 * (i 0).val) x) _ _ _ _ _ _ _ _ (piece_selFirst i x 3 3 rfl 3#32 rfl _ inb_S4x1x64_S1x1x64_3_0_0)
    (piece_selFirst i x 2 2 rfl 2#32 rfl _ inb_S4x1x64_S1x1x64_2_0_0) (piece_selFirst i x 1 1 rfl 1#32 rfl _ inb_S4x1x64_S1x1x64_1_0_0)
    (piece_selFirst i x 0 0 rfl 0#32 rfl _ inb_S4x1x64_S1x1x64_0_0_0) (cover0_3 _ _ _ _)

/-- Of their probabilities. -/
theorem block_valFirst : out0_4 i x = valFirst (4 * (i 0).val) x := by
  rw [out_valFirst]
  exact canon_four (valFirst (4 * (i 0).val) x) _ _ _ _ _ _ _ _ (piece_valFirst i x 3 3 rfl 3#32 rfl _ inb_S4x1x64_S1x1x64_3_0_0)
    (piece_valFirst i x 2 2 rfl 2#32 rfl _ inb_S4x1x64_S1x1x64_2_0_0) (piece_valFirst i x 1 1 rfl 1#32 rfl _ inb_S4x1x64_S1x1x64_1_0_0)
    (piece_valFirst i x 0 0 rfl 0#32 rfl _ inb_S4x1x64_S1x1x64_0_0_0) (cover0_4 _ _ _ _)

/-- Of the first rows' probabilities. -/
theorem block_head : out0_5 i x = head x := by
  rw [out_head]
  exact canon_four (head x) _ _ _ _ _ _ _ _ (piece_head x 3 3 rfl _ inb_S4x1x2048_S1x1x2048_3_0_0)
    (piece_head x 2 2 rfl _ inb_S4x1x2048_S1x1x2048_2_0_0) (piece_head x 1 1 rfl _ inb_S4x1x2048_S1x1x2048_1_0_0)
    (piece_head x 0 0 rfl _ inb_S4x1x2048_S1x1x2048_0_0_0) (cover0_5 _ _ _ _)

/-! ## The arrays after all points -/

/-- A point's number is its coordinate. -/
theorem coord_eq (t : Fin cfg0.N) : (grid0.coords t 0).val = t.val := by
  rcases fin_N0 t with rfl | rfl | rfl | rfl | rfl | rfl | rfl | rfl <;> decide +kernel

/-- The coordinate is small enough to be itself after a trip through a word. -/
theorem word_coord (i : grid0.Coords) : (BitVec.ofNat 32 (i 0).val).toNat = (i 0).val := by
  have h : (i 0).val < 8 := (i 0).isLt
  rw [BitVec.toNat_ofNat]; omega

/-- The batch a place of block `k` is. -/
def batch (k : Fin 8) (a : Fin 4) : Fin 32 := ⟨4 * k.val + a.val, by omega⟩

section Shift

variable {L : Vec Ideal S32x128x2048 .f32} {x : Vec Ideal S4x128x2048 .f32} {k : Fin 8}

/-- A row of a block is a row of the whole array. -/
theorem rowOf_shift (hx : ∀ a r v, x (ix3 a r v) = L (ix3 (batch k a) r v)) (a : Fin 4) (r : Fin 128) : rowOf x a r = rowOf L (batch k a) r :=
  funext fun v => hx a r v

/-- The positions sampled in a block's rows are those sampled in the whole array's. -/
theorem selRows_shift (hx : ∀ a r v, x (ix3 a r v) = L (ix3 (batch k a) r v)) (a : Fin 4) (r : Fin 128) :
    selRows (4 * k.val) x (ix3 a 0 r) = selRows 0 L (ix3 (batch k a) 0 r) := by
  show BitVec.ofNat 32 (pickRows (rowOf x a r) (4 * k.val + a.val) r.val).val = BitVec.ofNat 32 (pickRows (rowOf L (batch k a) r) (0 + (batch k a).val) r.val).val
  rw [rowOf_shift hx, Nat.zero_add]; rfl

/-- The same of the probabilities sampled in every row. -/
theorem valRows_shift (hx : ∀ a r v, x (ix3 a r v) = L (ix3 (batch k a) r v)) (a : Fin 4) (r : Fin 128) :
    valRows (4 * k.val) x (ix3 a 0 r) = valRows 0 L (ix3 (batch k a) 0 r) := by
  show softmax (rowOf x a r) (pickRows (rowOf x a r) (4 * k.val + a.val) r.val) = softmax (rowOf L (batch k a) r) (pickRows (rowOf L (batch k a) r) (0 + (batch k a).val) r.val)
  rw [rowOf_shift hx, Nat.zero_add]; rfl

/-- The same of the positions sampled in the first rows. -/
theorem selFirst_shift (hx : ∀ a r v, x (ix3 a r v) = L (ix3 (batch k a) r v)) (a : Fin 4) (r : Fin 64) :
    selFirst (4 * k.val) x (ix3 a 0 r) = selFirst 0 L (ix3 (batch k a) 0 r) := by
  show BitVec.ofNat 32 (pickFirst (rowOf x a 0) (4 * k.val + a.val) r.val).val = BitVec.ofNat 32 (pickFirst (rowOf L (batch k a) 0) (0 + (batch k a).val) r.val).val
  rw [rowOf_shift hx, Nat.zero_add]; rfl

/-- The same of the probabilities sampled in the first rows. -/
theorem valFirst_shift (hx : ∀ a r v, x (ix3 a r v) = L (ix3 (batch k a) r v)) (a : Fin 4) (r : Fin 64) :
    valFirst (4 * k.val) x (ix3 a 0 r) = valFirst 0 L (ix3 (batch k a) 0 r) := by
  show softmax (rowOf x a 0) (pickFirst (rowOf x a 0) (4 * k.val + a.val) r.val) = softmax (rowOf L (batch k a) 0) (pickFirst (rowOf L (batch k a) 0) (0 + (batch k a).val) r.val)
  rw [rowOf_shift hx, Nat.zero_add]; rfl

/-- The same of the first rows' probabilities. -/
theorem head_shift (hx : ∀ a r v, x (ix3 a r v) = L (ix3 (batch k a) r v)) (a : Fin 4) (r : Fin 2048) :
    head x (ix3 a 0 r) = head L (ix3 (batch k a) 0 r) := by
  show softmax (rowOf x a 0) r = softmax (rowOf L (batch k a) 0) r
  rw [rowOf_shift hx]

end Shift

variable (V : (c : Dev nD) → (b : Ref sig .tc) → Buf (Elt Ideal) ((c : Thread nD τ).loc b)) (c : Dev nD)

/-- The logits as the first kernel finds them. -/
abbrev logits : Vec Ideal S32x128x2048 .f32 := V c main_arg0

/-- The point's coordinate as a number of the eight. -/
abbrev at8 (t : Fin cfg0.N) : Fin 8 := grid0.coords t 0

/-- A block of the logits read. -/
theorem block_read (t : Fin cfg0.N) (a : Fin 4) (r : Fin 128) (v : Fin 2048) :
    iblk0 V c 0 t (ix3 a r v) = logits V c (ix3 (batch (at8 t) a) r v) := by
  show logits V c ((win0_0.rect t).emb (ix3 a r v)) = _
  congr 1
  funext e
  apply Fin.ext
  rw [Pipeline.Window.rect_emb_val win0_0 t]
  match e with
  | ⟨0, _⟩ => show (BitVec.ofNat 32 (grid0.coords t 0).val).toNat * 4 + a.val = 4 * (grid0.coords t 0).val + a.val; rw [word_coord, Nat.mul_comm]
  | ⟨1, _⟩ => show 0 * 128 + r.val = r.val; omega
  | ⟨2, _⟩ => show 0 * 2048 + v.val = v.val; omega

/-- Where an entry of a point's block of one-row batches sits in its array. -/
theorem place {n : Nat} {g : Fin 3 → Nat} (t : Fin cfg0.N) (y : (⟨3, ![4, 1, n]⟩ : Shape).Idx) (z : (⟨3, ![32, 1, n]⟩ : Shape).Idx)
    (hg : g = ![(BitVec.ofNat 32 (grid0.coords t 0).val).toNat, 0, 0])
    (hz : ∀ a, (z a : Nat) = g a * (![4, 1, n] : Fin 3 → Nat) a + (y a : Nat)) : z = ix3 (batch (at8 t) (y 0)) 0 (y 2) := by
  subst hg
  funext a
  apply Fin.ext
  rw [hz a]
  match a with
  | ⟨0, _⟩ => show (BitVec.ofNat 32 (grid0.coords t 0).val).toNat * 4 + (y 0 : Nat) = 4 * (grid0.coords t 0).val + (y 0 : Nat); rw [word_coord, Nat.mul_comm]
  | ⟨1, _⟩ => show 0 * 1 + (y 1 : Nat) = 0; have : (y 1 : Nat) < 1 := (y 1).isLt; omega
  | ⟨2, _⟩ => show 0 * n + (y 2 : Nat) = (y 2 : Nat); omega

/-- What a grid point writes back to the first output: its block of the positions sampled in every row. -/
theorem flushed_selRows (t : Fin cfg0.N) : (dat0 V c).flushed 1 t = (win0_1.blk t).view.read (Elt Ideal) (selRows 0 (logits V c)) := by
  show (cfg0.win 1).cut (grid0.coords t) ((dat0 V c).after 1 t) = _
  rw [after0_1, block_selRows]
  funext y
  show selRows (4 * (at8 t).val) (iblk0 V c 0 t) y = selRows 0 (logits V c) ((win0_1.rect t).emb y)
  rw [place t y ((win0_1.rect t).emb y) rfl fun a => Pipeline.Window.rect_emb_val win0_1 t y a]
  obtain ⟨a, r, rfl⟩ : ∃ (a : Fin 4) (r : Fin 128), y = ix3 a 0 r := ⟨y 0, y 2, eq_block y⟩
  exact selRows_shift (block_read V c t) _ _

/-- What it writes back to the second output: its block of the probabilities sampled in every row. -/
theorem flushed_valRows (t : Fin cfg0.N) : (dat0 V c).flushed 2 t = (win0_2.blk t).view.read (Elt Ideal) (valRows 0 (logits V c)) := by
  show (cfg0.win 2).cut (grid0.coords t) ((dat0 V c).after 2 t) = _
  rw [after0_2, block_valRows]
  funext y
  show valRows (4 * (at8 t).val) (iblk0 V c 0 t) y = valRows 0 (logits V c) ((win0_2.rect t).emb y)
  rw [place t y ((win0_2.rect t).emb y) rfl fun a => Pipeline.Window.rect_emb_val win0_2 t y a]
  obtain ⟨a, r, rfl⟩ : ∃ (a : Fin 4) (r : Fin 128), y = ix3 a 0 r := ⟨y 0, y 2, eq_block y⟩
  exact valRows_shift (block_read V c t) _ _

/-- What it writes back to the third output: its block of the positions sampled in the first rows. -/
theorem flushed_selFirst (t : Fin cfg0.N) : (dat0 V c).flushed 3 t = (win0_3.blk t).view.read (Elt Ideal) (selFirst 0 (logits V c)) := by
  show (cfg0.win 3).cut (grid0.coords t) ((dat0 V c).after 3 t) = _
  rw [after0_3, block_selFirst]
  funext y
  show selFirst (4 * (at8 t).val) (iblk0 V c 0 t) y = selFirst 0 (logits V c) ((win0_3.rect t).emb y)
  rw [place t y ((win0_3.rect t).emb y) rfl fun a => Pipeline.Window.rect_emb_val win0_3 t y a]
  obtain ⟨a, r, rfl⟩ : ∃ (a : Fin 4) (r : Fin 64), y = ix3 a 0 r := ⟨y 0, y 2, eq_block y⟩
  exact selFirst_shift (block_read V c t) _ _

/-- What it writes back to the fourth output: its block of the probabilities sampled in the first rows. -/
theorem flushed_valFirst (t : Fin cfg0.N) : (dat0 V c).flushed 4 t = (win0_4.blk t).view.read (Elt Ideal) (valFirst 0 (logits V c)) := by
  show (cfg0.win 4).cut (grid0.coords t) ((dat0 V c).after 4 t) = _
  rw [after0_4, block_valFirst]
  funext y
  show valFirst (4 * (at8 t).val) (iblk0 V c 0 t) y = valFirst 0 (logits V c) ((win0_4.rect t).emb y)
  rw [place t y ((win0_4.rect t).emb y) rfl fun a => Pipeline.Window.rect_emb_val win0_4 t y a]
  obtain ⟨a, r, rfl⟩ : ∃ (a : Fin 4) (r : Fin 64), y = ix3 a 0 r := ⟨y 0, y 2, eq_block y⟩
  exact valFirst_shift (block_read V c t) _ _

/-- What it writes back to the fifth output: its block of the first rows' probabilities. -/
theorem flushed_head (t : Fin cfg0.N) : (dat0 V c).flushed 5 t = (win0_5.blk t).view.read (Elt Ideal) (head (logits V c)) := by
  show (cfg0.win 5).cut (grid0.coords t) ((dat0 V c).after 5 t) = _
  rw [after0_5, block_head]
  funext y
  show head (iblk0 V c 0 t) y = head (logits V c) ((win0_5.rect t).emb y)
  rw [place t y ((win0_5.rect t).emb y) rfl fun a => Pipeline.Window.rect_emb_val win0_5 t y a]
  obtain ⟨a, r, rfl⟩ : ∃ (a : Fin 4) (r : Fin 2048), y = ix3 a 0 r := ⟨y 0, y 2, eq_block y⟩
  exact head_shift (block_read V c t) _ _

/-- The point whose block holds a batch. -/
def pointOf (b : Fin 32) : Fin cfg0.N := ⟨b.val / 4, by have := N_0; show b.val / 4 < grid0.N; omega⟩

/-- A batch lies in that point's block. -/
theorem pointOf_spec {n : Nat} (i : (⟨3, ![32, 1, n]⟩ : Shape).Idx) (a : Fin 3) :
    (![(BitVec.ofNat 32 (grid0.coords (pointOf (i 0)) 0).val).toNat, 0, 0] : Fin 3 → Nat) a * (![4, 1, n] : Fin 3 → Nat) a ≤ (i a : Nat)
      ∧ (i a : Nat) < (![(BitVec.ofNat 32 (grid0.coords (pointOf (i 0)) 0).val).toNat, 0, 0] : Fin 3 → Nat) a * (![4, 1, n] : Fin 3 → Nat) a + (![4, 1, n] : Fin 3 → Nat) a := by
  have h : (BitVec.ofNat 32 (grid0.coords (pointOf (i 0)) 0).val).toNat = (i 0 : Nat) / 4 := by rw [word_coord, coord_eq]; rfl
  rw [h]
  match a with
  | ⟨0, _⟩ => show (i 0 : Nat) / 4 * 4 ≤ (i 0 : Nat) ∧ (i 0 : Nat) < (i 0 : Nat) / 4 * 4 + 4; omega
  | ⟨1, _⟩ => show 0 * 1 ≤ (i 1 : Nat) ∧ (i 1 : Nat) < 0 * 1 + 1; have : (i 1 : Nat) < 1 := (i 1).isLt; omega
  | ⟨2, _⟩ => show 0 * n ≤ (i 2 : Nat) ∧ (i 2 : Nat) < 0 * n + n; have : (i 2 : Nat) < n := (i 2).isLt; omega

/-- Every entry of the first output is written back by some grid point. -/
theorem cover_selRows (i : S32x1x128.Idx) : ∃ t : Fin cfg0.N, (cfg0.win 1).flush t = true ∧ i ∈ ((cfg0.win 1).blk t).view.set := by
  refine ⟨pointOf (i 0), flush0_1 _, ?_⟩
  show i ∈ ((View.whole main_call0_v0_0).slice (win0_1.rect (pointOf (i 0)))).set
  rw [View.set_slice_whole, Rect.mem_set_unit]
  exact pointOf_spec i

/-- Every entry of the second output is written back by some grid point. -/
theorem cover_valRows (i : S32x1x128.Idx) : ∃ t : Fin cfg0.N, (cfg0.win 2).flush t = true ∧ i ∈ ((cfg0.win 2).blk t).view.set := by
  refine ⟨pointOf (i 0), flush0_2 _, ?_⟩
  show i ∈ ((View.whole main_call0_v0_1).slice (win0_2.rect (pointOf (i 0)))).set
  rw [View.set_slice_whole, Rect.mem_set_unit]
  exact pointOf_spec i

/-- Every entry of the third output is written back by some grid point. -/
theorem cover_selFirst (i : S32x1x64.Idx) : ∃ t : Fin cfg0.N, (cfg0.win 3).flush t = true ∧ i ∈ ((cfg0.win 3).blk t).view.set := by
  refine ⟨pointOf (i 0), flush0_3 _, ?_⟩
  show i ∈ ((View.whole main_call0_v0_2).slice (win0_3.rect (pointOf (i 0)))).set
  rw [View.set_slice_whole, Rect.mem_set_unit]
  exact pointOf_spec i

/-- Every entry of the fourth output is written back by some grid point. -/
theorem cover_valFirst (i : S32x1x64.Idx) : ∃ t : Fin cfg0.N, (cfg0.win 4).flush t = true ∧ i ∈ ((cfg0.win 4).blk t).view.set := by
  refine ⟨pointOf (i 0), flush0_4 _, ?_⟩
  show i ∈ ((View.whole main_call0_v0_3).slice (win0_4.rect (pointOf (i 0)))).set
  rw [View.set_slice_whole, Rect.mem_set_unit]
  exact pointOf_spec i

/-- Every entry of the fifth output is written back by some grid point. -/
theorem cover_head (i : S32x1x2048.Idx) : ∃ t : Fin cfg0.N, (cfg0.win 5).flush t = true ∧ i ∈ ((cfg0.win 5).blk t).view.set := by
  refine ⟨pointOf (i 0), flush0_5 _, ?_⟩
  show i ∈ ((View.whole main_call0_v0_4).slice (win0_5.rect (pointOf (i 0)))).set
  rw [View.set_slice_whole, Rect.mem_set_unit]
  exact pointOf_spec i

/-- The first kernel leaves the positions sampled from every row, -/
theorem array_selRows : (dat0 V c).arrAt 1 cfg0.N = selRows 0 (logits V c) :=
  (dat0 V c).arrAt_eq_of_cover 1 _ (fun t _ => flushed_selRows V c t) cover_selRows

/-- their probabilities, -/
theorem array_valRows : (dat0 V c).arrAt 2 cfg0.N = valRows 0 (logits V c) :=
  (dat0 V c).arrAt_eq_of_cover 2 _ (fun t _ => flushed_valRows V c t) cover_valRows

/-- the positions sampled from first rows, -/
theorem array_selFirst : (dat0 V c).arrAt 3 cfg0.N = selFirst 0 (logits V c) :=
  (dat0 V c).arrAt_eq_of_cover 3 _ (fun t _ => flushed_selFirst V c t) cover_selFirst

/-- their probabilities, -/
theorem array_valFirst : (dat0 V c).arrAt 4 cfg0.N = valFirst 0 (logits V c) :=
  (dat0 V c).arrAt_eq_of_cover 4 _ (fun t _ => flushed_valFirst V c t) cover_valFirst

/-- and the first rows' probabilities. -/
theorem array_head : (dat0 V c).arrAt 5 cfg0.N = head (logits V c) :=
  (dat0 V c).arrAt_eq_of_cover 5 _ (fun t _ => flushed_head V c t) cover_head

end Cert.KernelIdeal.Arrays
-- ==== Proof.Rounds.lean ====
/- The second kernel's vectors, read at an index: each round finds the first greatest entry of every row, records it and its
   position in the round's column, and sets that entry to minus infinity. -/
module

public import proofs.«01_k».proof.Proof.Arrays

@[expose] public section

noncomputable section

namespace Cert.KernelIdeal.Rounds

open Idealize.ShloMosaic Idealize.ShloMosaic.TcCoe Idealize.SL.Sem Cert.KernelIdeal Cert.KernelIdeal.Gen Cert.Sampling

/-- A row of a two-axis array. -/
def line (w : FVec Ideal S32x2048 .f32) (b : Fin 32) : Fin 2048 → EReal := fun v => w (ix2 b v)

/-- A round's greatest entries. -/
theorem greatest_apply (w : FVec Ideal S32x2048 .f32) (b : Fin 32) : k1_pay6 w (ix2 b 0) = line w b (firstMax (line w b)) := by
  rw [← fold_max_eq (line w b)]
  unfold k1_pay6 line
  pointwise [ofBits_negInf]

/-- Their first positions. -/
theorem position_apply (w : FVec Ideal S32x2048 .f32) (b : Fin 32) : k1_pay7 w (ix2 b 0) = BitVec.ofNat 32 (firstMax (line w b)).val := by
  rw [← fold_minsi_firstMax]
  unfold k1_pay7 k1_pay6 line
  pointwise [ofBits_negInf]

/-- What a round leaves to search. -/
theorem left_apply (w : FVec Ideal S32x2048 .f32) (b : Fin 32) (v : Fin 2048) : k1_pay8 w (ix2 b v) = sink (line w b) v := by
  have h : k1_pay8 w (ix2 b v) = Scalar.select (IntOp.cmpi .eq (BitVec.ofNat 32 v.val) (k1_pay7 w (ix2 b 0))) ⊥ (w (ix2 b v)) := by
    unfold k1_pay8
    pointwise [ofBits_negInf]
  rw [h, position_apply, select_eq_ofNat _ _ (by omega) (by omega)]
  simp only [sink, line, Fin.ext_iff]

/-- The array left after a round, by rows. -/
theorem line_left (w : FVec Ideal S32x2048 .f32) (b : Fin 32) : line (k1_pay8 w) b = sink (line w b) := funext fun v => left_apply w b v

/-- One round more. -/
theorem rounds_succ (f : Fin 2048 → EReal) (k : Nat) : rounds f (k + 1) = sink (rounds f k) := rfl

/-- The number of a round as the loop counts it. -/
theorem trip_word (k : Fin k1_t1_loop.trips) : Scf.iv 0#32 1#32 k = BitVec.ofNat 32 k.val := by
  simp [Scf.iv]

/-- The loop makes 64 rounds. -/
theorem trips_eq : k1_t1_loop.trips = 64 := by decide

/-- The recorded values after a round. -/
theorem values_apply (k : Fin k1_t1_loop.trips) (w : FVec Ideal S32x2048 .f32) (a : FVec Ideal S32x64 .f32) (b : Fin 32) (j : Fin 64) :
    k1_pay9 k w a (ix2 b j) = if j.val = k.val then line w b (firstMax (line w b)) else a (ix2 b j) := by
  have h : k1_pay9 k w a (ix2 b j) = Scalar.select (IntOp.cmpi .eq (BitVec.ofNat 32 j.val) (Scf.iv 0#32 1#32 k)) (k1_pay6 w (ix2 b 0)) (a (ix2 b j)) := by
    unfold k1_pay9
    pointwise []
  have hk : k.val < 64 := lt_of_lt_of_eq k.isLt trips_eq
  rw [h, trip_word, greatest_apply, select_eq_ofNat _ _ (by omega) (by omega)]

/-- The recorded positions after a round. -/
theorem places_apply (k : Fin k1_t1_loop.trips) (w : FVec Ideal S32x2048 .f32) (a : IVec S32x64 32) (b : Fin 32) (j : Fin 64) :
    k1_pay10 k w a (ix2 b j) = if j.val = k.val then BitVec.ofNat 32 (firstMax (line w b)).val else a (ix2 b j) := by
  have h : k1_pay10 k w a (ix2 b j) = Scalar.select (IntOp.cmpi .eq (BitVec.ofNat 32 j.val) (Scf.iv 0#32 1#32 k)) (k1_pay7 w (ix2 b 0)) (a (ix2 b j)) := by
    unfold k1_pay10
    pointwise []
  have hk : k.val < 64 := lt_of_lt_of_eq k.isLt trips_eq
  rw [h, trip_word, position_apply, select_eq_ofNat _ _ (by omega) (by omega)]

/-- What holds at the start and is handed on by every round holds after the last. -/
theorem fold_holds {σ : Type} {n : Nat} (P : Nat → σ → Prop) (g : Fin n → σ → σ) (init : σ) (h0 : P 0 init)
    (hs : ∀ (k : Fin n) a, P k.val a → P (k.val + 1) (g k a)) : P n (Scf.fold g init) := by
  rw [Scf.fold_eq]
  have key : ∀ m, m ≤ n → P m (((List.finRange n).take m).foldl (fun a k => g k a) init) := by
    intro m
    induction m with
    | zero => intro _; exact h0
    | succ m ih =>
      intro hm
      rw [List.take_succ_eq_append_getElem (by rw [List.length_finRange]; omega), List.foldl_append, List.getElem_finRange]
      exact hs ⟨m, hm⟩ _ (ih (by omega))
  have h := key n le_rfl
  rwa [List.take_of_length_le (by rw [List.length_finRange])] at h

/-- The loop: what is left to search, the recorded values and the recorded positions. -/
def loop (w : FVec Ideal S32x2048 .f32) : FVec Ideal S32x2048 .f32 × FVec Ideal S32x64 .f32 × IVec S32x64 32 :=
  Scf.fold (fun (k : Fin k1_t1_loop.trips) acc => (k1_pay8 acc.1, k1_pay9 k acc.1 acc.2.1, k1_pay10 k acc.1 acc.2.2)) (w, k1_pay4, k1_pay5)

/-- What the loop holds after `k` rounds. -/
def Holds (w : FVec Ideal S32x2048 .f32) (k : Nat) (a : FVec Ideal S32x2048 .f32 × FVec Ideal S32x64 .f32 × IVec S32x64 32) : Prop :=
  ∀ b : Fin 32, line a.1 b = rounds (line w b) k
    ∧ ∀ j : Fin 64, j.val < k → a.2.1 (ix2 b j) = line w b (ranked (line w b) ⟨j.val, by omega⟩)
      ∧ a.2.2 (ix2 b j) = BitVec.ofNat 32 (ranked (line w b) ⟨j.val, by omega⟩).val

/-- Where no entry is minus infinity the loop records the entries in order of rank, and their positions. -/
theorem loop_holds (w : FVec Ideal S32x2048 .f32) (hw : ∀ b v, ⊥ < line w b v) : Holds w k1_t1_loop.trips (loop w) := by
  unfold loop
  refine fold_holds (Holds w) _ _ (fun b => ⟨rfl, fun j hj => absurd hj (Nat.not_lt_zero _)⟩) fun k a ha b => ?_
  obtain ⟨h1, h2⟩ := ha b
  have hk : k.val < 64 := lt_of_lt_of_eq k.isLt trips_eq
  refine ⟨?_, fun j hj => ?_⟩
  · rw [rounds_succ, ← h1]
    have e := line_left a.1 b
    rw [e]
  · show k1_pay9 k a.1 a.2.1 (ix2 b j) = _ ∧ k1_pay10 k a.1 a.2.2 (ix2 b j) = _
    rw [values_apply, places_apply, h1]
    by_cases hjk : j.val = k.val
    · rw [if_pos hjk, if_pos hjk, max_rounds _ (hw b) ⟨k.val, by omega⟩, firstMax_rounds _ (hw b) ⟨k.val, by omega⟩]
      simp only [hjk, and_self]
    · rw [if_neg hjk, if_neg hjk]
      exact h2 j (by omega)

/-- The value the loop records in a column is the entry of that rank. -/
theorem loop_values (w : FVec Ideal S32x2048 .f32) (hw : ∀ b v, ⊥ < line w b v) (b : Fin 32) (j : Fin 64) :
    (loop w).2.1 (ix2 b j) = line w b (ranked (line w b) ⟨j.val, by omega⟩) :=
  ((loop_holds w hw b).2 j (lt_of_lt_of_eq j.isLt trips_eq.symm)).1

/-- The position it records is that of the entry of that rank. -/
theorem loop_places (w : FVec Ideal S32x2048 .f32) (hw : ∀ b v, ⊥ < line w b v) (b : Fin 32) (j : Fin 64) :
    (loop w).2.2 (ix2 b j) = BitVec.ofNat 32 (ranked (line w b) ⟨j.val, by omega⟩).val :=
  ((loop_holds w hw b).2 j (lt_of_lt_of_eq j.isLt trips_eq.symm)).2

/-! ## The reshaped arrays -/

/-- The first rows' probabilities as a matrix. -/
theorem first_apply (x : Vec Ideal S32x1x2048 .f32) (b : Fin 32) (v : Fin 2048) : k1_pay3 x (ix2 b v) = x (ix3 b 0 v) := by
  unfold k1_pay3; pointwise []

/-- The sampled positions as a matrix. -/
theorem sampled_apply (x : Vec Ideal S32x1x64 .i32) (b : Fin 32) (j : Fin 64) : k1_pay11 x (ix2 b j) = x (ix3 b 0 j) := by
  unfold k1_pay11; pointwise []

/-- The sampled probabilities as a matrix. -/
theorem sampledProb_apply (x : Vec Ideal S32x1x64 .f32) (b : Fin 32) (j : Fin 64) : k1_pay12 x (ix2 b j) = x (ix3 b 0 j) := by
  unfold k1_pay12; pointwise []

/-- Every row's sampled probability as a matrix. -/
theorem rowsProb_apply (x : Vec Ideal S32x1x128 .f32) (b : Fin 32) (r : Fin 128) : k1_pay13 x (ix2 b r) = x (ix3 b 0 r) := by
  unfold k1_pay13; pointwise []

/-- Every row's sampled position as a matrix. -/
theorem rowsSel_apply (x : Vec Ideal S32x1x128 .i32) (b : Fin 32) (r : Fin 128) : k1_pay2 (F := Ideal) x (ix2 b r) = x (ix3 b 0 r) := by
  unfold k1_pay2; pointwise []

end Cert.KernelIdeal.Rounds
-- ==== Proof.Finish.lean ====
module

public import proofs.«01_k».proof.Proof.Rounds

@[expose] public section
noncomputable section
namespace Cert.KernelIdeal.Finish
open Idealize.ShloMosaic Idealize.ShloMosaic.TcCoe Idealize.SL.Sem Cert.KernelIdeal Cert.KernelIdeal.Gen Cert.KernelIdeal.Rounds Cert.KernelIdeal.Arrays Cert.Sampling

/-! What the second kernel computes: the greatest entries of the first rows beside the sampled ones, and the final probabilities. -/

/-- An index of an array of 32 rows by its two coordinates. -/
theorem eq_two {n : Nat} (y : (⟨2, ![32, n]⟩ : Shape).Idx) : y = ix2 (y 0) (y 1) := by
  funext a
  apply Fin.ext
  match a with
  | ⟨0, _⟩ => rfl
  | ⟨1, _⟩ => rfl

/-- Two pieces that both agree with one function and cover the block are that function. -/
theorem canon_two {S : Shape} {e : EltTy} (G : Vec Ideal S e) (r0 r1 : Rect S) (w0 : r0.shape.Idx → Elt Ideal e) (w1 : r1.shape.Idx → Elt Ideal e)
    (h0 : ∀ z, w0 z = G (r0.emb z)) (h1 : ∀ z, w1 z = G (r1.emb z))
    (hc : ∀ y, ∃ p ∈ ([⟨r0, w0⟩, ⟨r1, w1⟩] : List (View.Piece (Elt Ideal) S e)), y ∈ p.1.set) :
    View.canon ([⟨r0, w0⟩, ⟨r1, w1⟩] : List (View.Piece (Elt Ideal) S e)) = G := by
  funext y
  refine View.canon_apply_of_pieces G _ (fun q hq => ?_) y (hc y)
  simp only [List.mem_cons, List.not_mem_nil, or_false] at hq
  rcases hq with rfl | rfl
  · exact h0
  · exact h1

/-- The left half of the columns. -/
theorem emb_left (h) (b : Fin 32) (j : Fin 64) : (Rect.unit (s := S32x128) ![0, 0] ![32, 64] h).emb (ix2 b j) = ix2 b ⟨j.val, by omega⟩ := by
  funext a
  apply Fin.ext
  rw [Rect.emb_apply]
  match a with
  | ⟨0, _⟩ => show 0 + 1 * b.val = b.val; omega
  | ⟨1, _⟩ => show 0 + 1 * j.val = j.val; omega

/-- The right half of the columns. -/
theorem emb_right (h) (b : Fin 32) (j : Fin 64) : (Rect.unit (s := S32x128) ![0, 64] ![32, 64] h).emb (ix2 b j) = ix2 b ⟨64 + j.val, by omega⟩ := by
  funext a
  apply Fin.ext
  rw [Rect.emb_apply]
  match a with
  | ⟨0, _⟩ => show 0 + 1 * b.val = b.val; omega
  | ⟨1, _⟩ => show 64 + 1 * j.val = 64 + j.val; omega

/-- Two halves side by side. -/
def beside {α : Type} (l r : Fin 32 → Fin 64 → α) : S32x128.Idx → α :=
  fun i => if h : (i 1).val < 64 then l (i 0) ⟨(i 1).val, h⟩ else r (i 0) ⟨(i 1).val - 64, by have : (i 1).val < 128 := (i 1).isLt; omega⟩

/-- An entry of the left half. -/
theorem beside_left {α : Type} (l r : Fin 32 → Fin 64 → α) (b : Fin 32) (j : Fin 64) : beside l r (ix2 b ⟨j.val, by omega⟩) = l b j :=
  dif_pos (show j.val < 64 from j.isLt)

/-- An entry of the right half. -/
theorem beside_right {α : Type} (l r : Fin 32 → Fin 64 → α) (b : Fin 32) (j : Fin 64) : beside l r (ix2 b ⟨64 + j.val, by omega⟩) = r b j := by
  refine (dif_neg (show ¬ 64 + j.val < 64 by omega)).trans ?_
  exact congrArg (r b) (Fin.ext (show 64 + j.val - 64 = j.val by omega))

/-- The least of some zeros and ones is positive where all are ones. -/
theorem least_flag {ι : Type} [Fintype ι] (p : ι → Prop) [DecidablePred p] :
    (0 : EReal) < Finset.fold min ⊤ (fun i => if p i then (1 : EReal) else 0) Finset.univ ↔ ∀ i, p i := by
  rw [Finset.lt_fold_min]
  constructor
  · intro h i
    by_contra hi
    have := h.2 i (Finset.mem_univ i)
    rw [if_neg hi] at this
    exact lt_irrefl _ this
  · intro h
    refine ⟨EReal.zero_lt_top, fun i _ => ?_⟩
    rw [if_pos (h i)]
    exact one_pos

/-- The flag is positive where no sampled probability is zero. -/
theorem flag_apply (x : Vec Ideal S32x1x128 .f32) : 0 < k1_pay14 x (ix3 0 0 0) ↔ ∀ (b : Fin 32) (r : Fin 128), x (ix3 b 0 r) ≠ 0 := by
  have h : k1_pay14 x (ix3 0 0 0) = Finset.fold min ⊤ (fun p : Fin 32 × Fin 128 => if x (ix3 p.1 0 p.2) ≠ 0 then (1 : EReal) else 0) Finset.univ := by
    rw [← ofBits_posInf]
    unfold k1_pay14
    pointwise [rowsProb_apply]
  rw [h, least_flag]
  exact ⟨fun h b r => h (b, r), fun h p => h p.1 p.2⟩

/-- The final probabilities: the sampled ones, with a small number added to all where one of them is zero. -/
def lifted (x : Vec Ideal S32x1x128 .f32) : Vec Ideal S32x128 .f32 := fun i =>
  haveI := Classical.propDecidable (∀ (b : Fin 32) (r : Fin 128), x (ix3 b 0 r) ≠ 0)
  if ∀ (b : Fin 32) (r : Fin 128), x (ix3 b 0 r) ≠ 0 then x (ix3 (i 0) 0 (i 1)) else x (ix3 (i 0) 0 (i 1)) + Ideal.ofBits .f32 0x358637BD#32

/-- What the body computes for the final probabilities. -/
theorem final_apply (x : Vec Ideal S32x1x128 .f32) : k1_pay1 (k1_pay13 x) (k1_pay14 x) = lifted x := by
  funext i
  obtain ⟨b, r, rfl⟩ : ∃ (b : Fin 32) (r : Fin 128), i = ix2 b r := ⟨i 0, i 1, eq_two i⟩
  have h : k1_pay1 (k1_pay13 x) (k1_pay14 x) (ix2 b r) = (if 0 < k1_pay14 x (ix3 0 0 0) then k1_pay13 x else addf (k1_pay13 x) (broadcast S32x128 (Ideal.ofBits .f32 0x358637BD#32))) (ix2 b r) := by
    unfold k1_pay1
    pointwise []
  rw [h]
  unfold lifted
  by_cases hz : ∀ (b : Fin 32) (r : Fin 128), x (ix3 b 0 r) ≠ 0
  · rw [if_pos ((flag_apply x).mpr hz), if_pos hz, rowsProb_apply]; rfl
  · rw [if_neg (mt (flag_apply x).mp hz), if_neg hz]
    show k1_pay13 x (ix2 b r) + _ = _
    rw [rowsProb_apply]; rfl

/-- A load of a whole buffer reads what it holds. -/
theorem load_whole {κ : Kind} {sp : Space} {s : Shape} {e : EltTy} {m : Memref sig κ sp s e} (h : m.IsWhole) (x : Vec Ideal s e) {off : Fin s.rank → ℕ}
    (inb : ∀ a, off a + s.size a ≤ s.size a) : m.view.readAt (Elt Ideal) (Rect.unit off s.size inb).toLoadRect (h.unread x) = x := by
  funext y
  refine (congrArg (fun g => View.ld g (Rect.unit off s.size inb) y) (h.read_unread x)).trans (congrArg x (funext fun a => Fin.ext ?_))
  show off a + 1 * (y a).val = (y a).val
  have := inb a; omega

variable (c : Dev nD) (t : Fin cfg1.N) (x0 : Vec Ideal S32x1x2048 .f32) (x1 : Vec Ideal S32x1x128 .f32) (x2 : Vec Ideal S32x1x64 .i32)
  (x3 : Vec Ideal S32x1x64 .f32) (x4 : Vec Ideal S32x1x128 .i32)

/-- The rounds run on the first rows' probabilities. -/
theorem rounds_run : kernelRun1_A.sl.r c (ms1_0 t) (hs1_0 t) x0 = loop (k1_pay3 x0) := by
  unfold kernelRun1_A.sl.r loop
  have e : View.readAt (Elt Ideal) (ms1_0 t).view (Rect.unit ![0, 0, 0] S32x1x2048.size inb_S32x1x2048_S32x1x2048_0_0_0).toLoadRect ((hs1_0 t).unread x0) = x0 :=
    load_whole (hs1_0 t) x0 inb_S32x1x2048_S32x1x2048_0_0_0
  rw [e]

/-- The origin of a matrix. -/
theorem zero_two : (![0, 0] : Fin 2 → Nat) = fun _ => 0 := funext fun a => by fin_cases a <;> rfl

/-- The sampled probabilities as the body keeps them, -/
theorem rowsProb_run : kernelRun1_A.sl.r_1 c (ms1_1 t) (hs1_1 t) x1 = k1_pay13 x1 := by
  unfold kernelRun1_A.sl.r_1
  have e : View.readAt (Elt Ideal) (ms1_1 t).view (Rect.unit ![0, 0, 0] S32x1x128.size inb_S32x1x128_S32x1x128_0_0_0).toLoadRect ((hs1_1 t).unread x1) = x1 :=
    load_whole (hs1_1 t) x1 inb_S32x1x128_S32x1x128_0_0_0
  rw [e]

/-- and their flag. -/
theorem flag_run : kernelRun1_A.sl.r_2 c (ms1_1 t) (hs1_1 t) x1 = k1_pay14 x1 := by
  unfold kernelRun1_A.sl.r_2
  have e : View.readAt (Elt Ideal) (ms1_1 t).view (Rect.unit ![0, 0, 0] S32x1x128.size inb_S32x1x128_S32x1x128_0_0_0).toLoadRect ((hs1_1 t).unread x1) = x1 :=
    load_whole (hs1_1 t) x1 inb_S32x1x128_S32x1x128_0_0_0
  rw [e]

/-- The pieces of the selected positions, -/
theorem out_selected : out1_A_5 c (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) x0 x1 x2 x3 x4
      = View.canon ([⟨Rect.unit ![0, 64] ![32, 64] inb_S32x128_S32x64_0_64, k1_pay11 x2⟩,
          ⟨Rect.unit ![0, 0] ![32, 64] inb_S32x128_S32x64_0_0, (loop (k1_pay3 x0)).2.2⟩] : List (View.Piece (Elt Ideal) S32x128 .i32)) := by
  unfold out1_A_5
  rw [View.read_writes_junk_eq_canon]
  unfold kernelRun1_A
  dsimp only
  have e : View.readAt (Elt Ideal) (View.whole cc1_stg2_0) (Rect.unit ![0, 0, 0] ![32, 1, 64] inb_S32x1x64_S32x1x64_0_0_0).toLoadRect ((hs1_2 t).unread x2) = x2 :=
    load_whole (hs1_2 t) x2 inb_S32x1x64_S32x1x64_0_0_0
  rw [e, rounds_run]

/-- of their probabilities, -/
theorem out_prob : out1_A_6 c (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) x0 x1 x2 x3 x4
      = View.canon ([⟨Rect.unit ![0, 64] ![32, 64] inb_S32x128_S32x64_0_64, k1_pay12 x3⟩,
          ⟨Rect.unit ![0, 0] ![32, 64] inb_S32x128_S32x64_0_0, (loop (k1_pay3 x0)).2.1⟩] : List (View.Piece (Elt Ideal) S32x128 .f32)) := by
  unfold out1_A_6
  rw [View.read_writes_junk_eq_canon]
  unfold kernelRun1_A
  dsimp only
  have e : View.readAt (Elt Ideal) (View.whole cc1_stg3_0) (Rect.unit ![0, 0, 0] ![32, 1, 64] inb_S32x1x64_S32x1x64_0_0_0).toLoadRect ((hs1_3 t).unread x3) = x3 :=
    load_whole (hs1_3 t) x3 inb_S32x1x64_S32x1x64_0_0_0
  rw [e, rounds_run]

/-- the one piece of the final probabilities, -/
theorem out_lifted : out1_A_7 c (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) x0 x1 x2 x3 x4 = lifted x1 := by
  rw [← final_apply]
  unfold out1_A_7
  rw [View.read_writes_junk_eq_canon]
  unfold kernelRun1_A
  dsimp only
  rw [View.canon_unit_zero zero_two, rowsProb_run, flag_run]

/-- and that of the positions of all rows. -/
theorem out_rows : out1_A_8 c (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) x0 x1 x2 x3 x4 = k1_pay2 (F := Ideal) x4 := by
  unfold out1_A_8
  rw [View.read_writes_junk_eq_canon]
  unfold kernelRun1_A
  dsimp only
  have e : View.readAt (Elt Ideal) (View.whole cc1_stg4_0) (Rect.unit ![0, 0, 0] ![32, 1, 128] inb_S32x1x128_S32x1x128_0_0_0).toLoadRect ((hs1_4 t).unread x4) = x4 :=
    load_whole (hs1_4 t) x4 inb_S32x1x128_S32x1x128_0_0_0
  rw [View.canon_unit_zero zero_two, e]

/-! ## The blocks as functions of the arrays -/

/-- The one row of a batch. -/
def only (x : Vec Ideal S32x1x2048 .f32) (b : Fin 32) : Fin 2048 → EReal := fun v => x (ix3 b 0 v)

/-- The body's reshaped rows are the rows of the array. -/
theorem line_first (b : Fin 32) : line (k1_pay3 x0) b = only x0 b := funext fun v => first_apply x0 b v

/-- The positions of the 64 greatest entries beside the sampled ones. -/
def chosen (x0 : Vec Ideal S32x1x2048 .f32) (x2 : Vec Ideal S32x1x64 .i32) : Vec Ideal S32x128 .i32 :=
  beside (fun b j => BitVec.ofNat 32 (ranked (only x0 b) ⟨j.val, by omega⟩).val) fun b j => x2 (ix3 b 0 j)

/-- The 64 greatest entries beside the sampled ones. -/
def chosenProb (x0 : Vec Ideal S32x1x2048 .f32) (x3 : Vec Ideal S32x1x64 .f32) : Vec Ideal S32x128 .f32 :=
  beside (fun b j => only x0 b (ranked (only x0 b) ⟨j.val, by omega⟩)) fun b j => x3 (ix3 b 0 j)

/-- The positions the loop finds are the left half of the first result. -/
theorem left_places (hx : ∀ b v, ⊥ < only x0 b v) (z : S32x64.Idx) :
    (loop (k1_pay3 x0)).2.2 z = chosen x0 x2 ((Rect.unit (s := S32x128) ![0, 0] ![32, 64] inb_S32x128_S32x64_0_0).emb z) := by
  obtain ⟨b, j, rfl⟩ : ∃ (b : Fin 32) (j : Fin 64), z = ix2 b j := ⟨z 0, z 1, eq_two z⟩
  have e := loop_places (k1_pay3 x0) (fun b v => by rw [line_first]; exact hx b v) b j
  rw [emb_left, e, line_first]
  unfold chosen
  rw [beside_left]

/-- The sampled positions are its right half. -/
theorem right_places (z : S32x64.Idx) : k1_pay11 x2 z = chosen x0 x2 ((Rect.unit (s := S32x128) ![0, 64] ![32, 64] inb_S32x128_S32x64_0_64).emb z) := by
  obtain ⟨b, j, rfl⟩ : ∃ (b : Fin 32) (j : Fin 64), z = ix2 b j := ⟨z 0, z 1, eq_two z⟩
  rw [emb_right, sampled_apply]
  unfold chosen
  rw [beside_right]

/-- The values the loop finds are the left half of the second result. -/
theorem left_values (hx : ∀ b v, ⊥ < only x0 b v) (z : S32x64.Idx) :
    (loop (k1_pay3 x0)).2.1 z = chosenProb x0 x3 ((Rect.unit (s := S32x128) ![0, 0] ![32, 64] inb_S32x128_S32x64_0_0).emb z) := by
  obtain ⟨b, j, rfl⟩ : ∃ (b : Fin 32) (j : Fin 64), z = ix2 b j := ⟨z 0, z 1, eq_two z⟩
  have e := loop_values (k1_pay3 x0) (fun b v => by rw [line_first]; exact hx b v) b j
  rw [emb_left, e, line_first]
  unfold chosenProb
  rw [beside_left]

/-- The sampled probabilities are its right half. -/
theorem right_values (z : S32x64.Idx) : k1_pay12 x3 z = chosenProb x0 x3 ((Rect.unit (s := S32x128) ![0, 64] ![32, 64] inb_S32x128_S32x64_0_64).emb z) := by
  obtain ⟨b, j, rfl⟩ : ∃ (b : Fin 32) (j : Fin 64), z = ix2 b j := ⟨z 0, z 1, eq_two z⟩
  rw [emb_right, sampledProb_apply]
  unfold chosenProb
  rw [beside_right]

/-- The two halves cover the columns. -/
theorem cover_two (y : S32x128.Idx) : y ∈ (Rect.unit (s := S32x128) ![0, 64] ![32, 64] inb_S32x128_S32x64_0_64).set ∨ y ∈ (Rect.unit (s := S32x128) ![0, 0] ![32, 64] inb_S32x128_S32x64_0_0).set := by
  have h0 : (y 0 : Nat) < 32 := (y 0).isLt
  have h1 : (y 1 : Nat) < 128 := (y 1).isLt
  rw [Rect.mem_set_unit, Rect.mem_set_unit]
  by_cases h : (y 1 : Nat) < 64
  · refine Or.inr fun a => ?_
    match a with
    | ⟨0, _⟩ => exact ⟨Nat.zero_le _, by show (y 0 : Nat) < 0 + 32; omega⟩
    | ⟨1, _⟩ => exact ⟨Nat.zero_le _, by show (y 1 : Nat) < 0 + 64; omega⟩
  · refine Or.inl fun a => ?_
    match a with
    | ⟨0, _⟩ => exact ⟨Nat.zero_le _, by show (y 0 : Nat) < 0 + 32; omega⟩
    | ⟨1, _⟩ => exact ⟨by show 64 ≤ (y 1 : Nat); omega, by show (y 1 : Nat) < 64 + 64; omega⟩

/-- The two stores cover the result. -/
theorem cover_pieces {e : EltTy} (w0 w1 : S32x64.Idx → Elt Ideal e) (y : S32x128.Idx) :
    ∃ p ∈ ([⟨Rect.unit ![0, 64] ![32, 64] inb_S32x128_S32x64_0_64, w0⟩, ⟨Rect.unit ![0, 0] ![32, 64] inb_S32x128_S32x64_0_0, w1⟩] : List (View.Piece (Elt Ideal) S32x128 e)), y ∈ p.1.set := by
  rcases cover_two y with h | h
  · exact ⟨_, List.mem_cons_self, h⟩
  · exact ⟨_, List.mem_cons_of_mem _ List.mem_cons_self, h⟩

/-- The first output of the second kernel, where no entry is minus infinity. -/
theorem block_selected (hx : ∀ b v, ⊥ < only x0 b v) : out1_A_5 c (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) x0 x1 x2 x3 x4 = chosen x0 x2 := by
  rw [out_selected]
  exact canon_two (chosen x0 x2) _ _ _ _ (right_places x0 x2) (left_places x0 x2 hx) (cover_pieces _ _)

/-- Its second output, where no entry is minus infinity. -/
theorem block_prob (hx : ∀ b v, ⊥ < only x0 b v) : out1_A_6 c (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) x0 x1 x2 x3 x4 = chosenProb x0 x3 := by
  rw [out_prob]
  exact canon_two (chosenProb x0 x3) _ _ _ _ (right_values x0 x3) (left_values x0 x3 hx) (cover_pieces _ _)

/-- The one row of every batch as a matrix. -/
def flat (x4 : Vec Ideal S32x1x128 .i32) : Vec Ideal S32x128 .i32 := fun i => x4 (ix3 (i 0) 0 (i 1))

/-- Its fourth output. -/
theorem block_rows : out1_A_8 c (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) x0 x1 x2 x3 x4 = flat x4 := by
  rw [out_rows]
  funext i
  obtain ⟨b, r, rfl⟩ : ∃ (b : Fin 32) (r : Fin 128), i = ix2 b r := ⟨i 0, i 1, eq_two i⟩
  exact rowsSel_apply x4 b r

end Cert.KernelIdeal.Finish
-- ==== Proof.KernelValue.lean ====
module

public import proofs.«01_k».proof.Proof.Finish
public import Idealize.ShloMosaic.Adequacy
public import Idealize.ShloMosaic.Init

@[expose] public section
noncomputable section
namespace Cert.KernelIdeal.KernelValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Arrays Cert.KernelIdeal.Finish Cert.Sampling

local notation "𝕄" => MT nD τ sig Unit (Elt Ideal) ℕ (UR sig nD τ) ℕ

/-! The four results of the whole kernel as functions of the logits. -/

section Second

variable (V : (c : Dev nD) → (b : Ref sig .tc) → Buf (Elt Ideal) ((c : Thread nD τ).loc b)) (c : Dev nD) (t : Fin cfg1.N)

/-- An entry of the only block of an array is the array's entry there. -/
theorem same {S : Shape} (s : Fin S.rank → Nat) (z y : S.Idx) (h : ∀ a, (z a : Nat) = 0 * s a + (y a : Nat)) : z = y :=
  funext fun a => Fin.ext (by rw [h a, Nat.zero_mul, Nat.zero_add])

/-- The second kernel's blocks are the whole arrays: of the first rows' probabilities, -/
theorem whole_head : iblk1 V c 0 t = V c main_call0_v0_4 :=
  funext fun y => congrArg (V c main_call0_v0_4) (same _ ((win1_0.rect t).emb y) y fun a => Pipeline.Window.rect_emb_val win1_0 t y a)

/-- of the sampled probabilities of all rows, -/
theorem whole_valRows : iblk1 V c 1 t = V c main_call0_v0_1 :=
  funext fun y => congrArg (V c main_call0_v0_1) (same _ ((win1_1.rect t).emb y) y fun a => Pipeline.Window.rect_emb_val win1_1 t y a)

/-- of the positions sampled from first rows, -/
theorem whole_selFirst : iblk1 V c 2 t = V c main_call0_v0_2 :=
  funext fun y => congrArg (V c main_call0_v0_2) (same _ ((win1_2.rect t).emb y) y fun a => Pipeline.Window.rect_emb_val win1_2 t y a)

/-- of their probabilities, -/
theorem whole_valFirst : iblk1 V c 3 t = V c main_call0_v0_3 :=
  funext fun y => congrArg (V c main_call0_v0_3) (same _ ((win1_3.rect t).emb y) y fun a => Pipeline.Window.rect_emb_val win1_3 t y a)

/-- and of the positions sampled from all rows. -/
theorem whole_selRows : iblk1 V c 4 t = V c main_call0_v0_0 :=
  funext fun y => congrArg (V c main_call0_v0_0) (same _ ((win1_4.rect t).emb y) y fun a => Pipeline.Window.rect_emb_val win1_4 t y a)

/-- Every entry of an array of 32 rows of 128 lies in its only block. -/
theorem inside (i : S32x128.Idx) (a : Fin 2) : 0 * S32x128.size a ≤ (i a : Nat) ∧ (i a : Nat) < 0 * S32x128.size a + S32x128.size a := by
  have := (i a).isLt
  omega

variable {V c}

/-- The second kernel leaves the selected positions, -/
theorem array_selected (hx : ∀ b v, ⊥ < only (V c main_call0_v0_4) b v) :
    (dat1 V c).arrAt 5 cfg1.N = chosen (V c main_call0_v0_4) (V c main_call0_v0_2) := by
  refine (dat1 V c).arrAt_eq_of_cover 5 _ (fun t _ => ?_) fun i => ⟨t1_0, flush1_5 _, ?_⟩
  · show (cfg1.win 5).cut (grid1.coords t) ((dat1 V c).after 5 t) = _
    rw [after1_5]
    unfold outsAt1
    dsimp only
    rw [whole_head, whole_selFirst, block_selected _ _ _ _ _ _ _ hx]
    exact funext fun y => congrArg (chosen (V c main_call0_v0_4) (V c main_call0_v0_2)) (same _ ((win1_5.rect t).emb y) y fun a => Pipeline.Window.rect_emb_val win1_5 t y a).symm
  · show i ∈ ((View.whole main_v0_0).slice (win1_5.rect t1_0)).set
    rw [View.set_slice_whole, Rect.mem_set_unit]
    exact inside i

/-- their probabilities, -/
theorem array_prob (hx : ∀ b v, ⊥ < only (V c main_call0_v0_4) b v) :
    (dat1 V c).arrAt 6 cfg1.N = chosenProb (V c main_call0_v0_4) (V c main_call0_v0_3) := by
  refine (dat1 V c).arrAt_eq_of_cover 6 _ (fun t _ => ?_) fun i => ⟨t1_0, flush1_6 _, ?_⟩
  · show (cfg1.win 6).cut (grid1.coords t) ((dat1 V c).after 6 t) = _
    rw [after1_6]
    unfold outsAt1
    dsimp only
    rw [whole_head, whole_valFirst, block_prob _ _ _ _ _ _ _ hx]
    exact funext fun y => congrArg (chosenProb (V c main_call0_v0_4) (V c main_call0_v0_3)) (same _ ((win1_6.rect t).emb y) y fun a => Pipeline.Window.rect_emb_val win1_6 t y a).symm
  · show i ∈ ((View.whole main_v0_1).slice (win1_6.rect t1_0)).set
    rw [View.set_slice_whole, Rect.mem_set_unit]
    exact inside i

/-- the final probabilities of the rows, -/
theorem array_lifted :
    (dat1 V c).arrAt 7 cfg1.N = lifted (V c main_call0_v0_1) := by
  refine (dat1 V c).arrAt_eq_of_cover 7 _ (fun t _ => ?_) fun i => ⟨t1_0, flush1_7 _, ?_⟩
  · show (cfg1.win 7).cut (grid1.coords t) ((dat1 V c).after 7 t) = _
    rw [after1_7]
    unfold outsAt1
    dsimp only
    rw [whole_valRows, out_lifted]
    exact funext fun y => congrArg (lifted (V c main_call0_v0_1)) (same _ ((win1_7.rect t).emb y) y fun a => Pipeline.Window.rect_emb_val win1_7 t y a).symm
  · show i ∈ ((View.whole main_v0_3).slice (win1_7.rect t1_0)).set
    rw [View.set_slice_whole, Rect.mem_set_unit]
    exact inside i

/-- and the positions of all rows. -/
theorem array_rows :
    (dat1 V c).arrAt 8 cfg1.N = flat (V c main_call0_v0_0) := by
  refine (dat1 V c).arrAt_eq_of_cover 8 _ (fun t _ => ?_) fun i => ⟨t1_0, flush1_8 _, ?_⟩
  · show (cfg1.win 8).cut (grid1.coords t) ((dat1 V c).after 8 t) = _
    rw [after1_8]
    unfold outsAt1
    dsimp only
    rw [whole_selRows, block_rows]
    exact funext fun y => congrArg (flat (V c main_call0_v0_0)) (same _ ((win1_8.rect t).emb y) y fun a => Pipeline.Window.rect_emb_val win1_8 t y a).symm
  · show i ∈ ((View.whole main_v0_2).slice (win1_8.rect t1_0)).set
    rw [View.set_slice_whole, Rect.mem_set_unit]
    exact inside i

end Second

/-! ## The results -/

/-- The logits. -/
abbrev Logits := Vec Ideal S32x128x2048 .f32

/-- The positions selected from first rows: the 64 greatest and the 64 sampled. -/
def selected1 (X : Logits) : Vec Ideal S32x128 .i32 := chosen (head X) (selFirst 0 X)
/-- The probabilities of those positions. -/
def prob1 (X : Logits) : Vec Ideal S32x128 .f32 := chosenProb (head X) (valFirst 0 X)
/-- The positions sampled in every row. -/
def selected2 (X : Logits) : Vec Ideal S32x128 .i32 := flat (selRows 0 X)
/-- The final probabilities of every row's sample. -/
def prob2 (X : Logits) : Vec Ideal S32x128 .f32 := lifted (valRows 0 X)

variable (m : (ℓ : Loc nD τ sig) → Buf (Elt Ideal) ℓ) (ρ : Dev nD → PrngReg) (c : Dev nD)

/-- The logits as launched on a device. -/
abbrev launched : Logits := m ((c : Thread nD τ).loc main_arg0)

/-- The first rows' probabilities, as the second kernel finds them: the array the first one left. -/
theorem found_head : V1 m ρ c main_call0_v0_4 = head (launched m c) := (W1_arr m ρ c 5).trans (array_head (V0 m ρ) c)
/-- The positions sampled in every row, as the second kernel finds them. -/
theorem found_selRows : V1 m ρ c main_call0_v0_0 = selRows 0 (launched m c) := (W1_arr m ρ c 1).trans (array_selRows (V0 m ρ) c)
/-- The probabilities sampled in every row, as it finds them. -/
theorem found_valRows : V1 m ρ c main_call0_v0_1 = valRows 0 (launched m c) := (W1_arr m ρ c 2).trans (array_valRows (V0 m ρ) c)
/-- The positions sampled in the first rows, as it finds them. -/
theorem found_selFirst : V1 m ρ c main_call0_v0_2 = selFirst 0 (launched m c) := (W1_arr m ρ c 3).trans (array_selFirst (V0 m ρ) c)
/-- The probabilities sampled in the first rows, as it finds them. -/
theorem found_valFirst : V1 m ρ c main_call0_v0_3 = valFirst 0 (launched m c) := (W1_arr m ρ c 4).trans (array_valFirst (V0 m ρ) c)

/-- Every first row's greatest logit is finite. -/
def HeadFinite (X : Logits) : Prop := ∀ b : Fin 32, rowMax (rowOf X b 0) ≠ ⊥ ∧ rowMax (rowOf X b 0) ≠ ⊤

/-- Under finite greatest logits no probability of a first row is minus infinity. -/
theorem bot_lt_head {X : Logits} (h : HeadFinite X) (b : Fin 32) (v : Fin 2048) : ⊥ < only (head X) b v :=
  bot_lt_softmax (rowOf X b 0) (h b).1 (h b).2 v

/-- What the second kernel leaves in the first result. -/
theorem left_selected (h : HeadFinite (launched m c)) : W2 m ρ c (Proc.devRef .tc main_v0_0) = selected1 (launched m c) := by
  refine (W2_arr m ρ c 5).trans ((array_selected fun b v => ?_).trans ?_)
  · rw [found_head]; exact bot_lt_head h b v
  · rw [found_head, found_selFirst]; rfl

/-- What it leaves in the second result. -/
theorem left_prob (h : HeadFinite (launched m c)) : W2 m ρ c (Proc.devRef .tc main_v0_1) = prob1 (launched m c) := by
  refine (W2_arr m ρ c 6).trans ((array_prob fun b v => ?_).trans ?_)
  · rw [found_head]; exact bot_lt_head h b v
  · rw [found_head, found_valFirst]; rfl

/-- What it leaves in the third result. -/
theorem left_rows : W2 m ρ c (Proc.devRef .tc main_v0_2) = selected2 (launched m c) := by
  refine (W2_arr m ρ c 8).trans (array_rows.trans ?_)
  rw [found_selRows]; rfl

/-- What it leaves in the fourth result. -/
theorem left_lifted : W2 m ρ c (Proc.devRef .tc main_v0_3) = prob2 (launched m c) := by
  refine (W2_arr m ρ c 7).trans (array_lifted.trans ?_)
  rw [found_valRows]; rfl

set_option backward.isDefEq.respectTransparency.types false in
/-- Where every first row's greatest logit is finite, every run of the kernel ends with the four results these functions of
    the logits and the arguments as launched. -/
theorem run (h : ∀ c, HeadFinite (launched m c)) : θ_run defs (onTc (τ := τ) (main (F := Ideal))) ⟨m, fun _ => 0, ρ⟩ (fun r => ∀ c : Dev nD,
      r.2.mem ((c.tc : Thread nD τ).loc main_v0_0) = selected1 (launched m c)
      ∧ r.2.mem ((c.tc : Thread nD τ).loc main_v0_1) = prob1 (launched m c)
      ∧ r.2.mem ((c.tc : Thread nD τ).loc main_v0_2) = selected2 (launched m c)
      ∧ r.2.mem ((c.tc : Thread nD τ).loc main_v0_3) = prob2 (launched m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s k _ c =>
      ⟨(k c _ (mem_uc main_v0_0 (by decide))).trans (left_selected m ρ c (h c)), (k c _ (mem_uc main_v0_1 (by decide))).trans (left_prob m ρ c (h c)),
        (k c _ (mem_uc main_v0_2 (by decide))).trans (left_rows m ρ c), (k c _ (mem_uc main_v0_3 (by decide))).trans (left_lifted m ρ c),
        (k c _ (mem_uc main_arg0 (by decide))).trans (W2_main_arg0 m ρ c), (k c _ (mem_uc main_arg1 (by decide))).trans (W2_main_arg1 m ρ c)⟩)

end Cert.KernelIdeal.KernelValue
-- ==== Proof.RefWords.lean ====
/- The reference's random words and the noise they make: its schedule of twenty rounds, group by group, is the one of `bits`. -/
module

public import proofs.«01_k».proof.Proof.Spec
public import proofs.«01_k».proof.Proof.Gen.ReferenceIdeal.Read
public import Idealize.ShloMosaic.Lib.ValueIdxCore
public import Idealize.ShloMosaic.Lib.Pointwise

@[expose] public section

noncomputable section

namespace Cert.ReferenceIdeal.Words

open Idealize.ShloMosaic Cert.ReferenceIdeal Cert.ReferenceIdeal.Read Cert.Sampling

/-! ## The schedule as the reference writes it -/

/-- A round, with the host's shifts. -/
def turn (r r' : BitVec 32) (p : Words) : Words :=
  (IntOp.addi p.1 p.2, IntOp.xori (IntOp.ori (IntOp.shli .host p.2 r) (IntOp.shrui .host p.2 r')) (IntOp.addi p.1 p.2))

/-- It is the round of the kernel's words. -/
theorem turn_eq (r r' : BitVec 32) (p : Words) : turn r r' p = mix r r' p := by
  unfold turn mix
  rw [ValueIdx.shli_host, ValueIdx.shrui_host]

/-- The key words of a group added, and the group's number. -/
def keys (a b n : BitVec 32) (p : Words) : Words := (IntOp.addi p.1 a, IntOp.addi (IntOp.addi p.2 b) n)

/-- The groups of odd number. -/
def groupOdd (a b n : BitVec 32) (p : Words) : Words := keys a b n (turn 6#32 26#32 (turn 26#32 6#32 (turn 15#32 17#32 (turn 13#32 19#32 p))))

/-- The groups of even number. -/
def groupEven (a b n : BitVec 32) (p : Words) : Words := keys a b n (turn 24#32 8#32 (turn 16#32 16#32 (turn 29#32 3#32 (turn 17#32 15#32 p))))

/-- The five groups. -/
def schedule (k1 k2 : BitVec 32) (p : Words) : Words :=
  groupOdd k2 0#32 5#32 (groupEven k1 k2 4#32 (groupOdd 0#32 k1 3#32 (groupEven k2 0#32 2#32 (groupOdd k1 k2 1#32 p))))

/-- Zero added on the right. -/
theorem addi_zero (x : BitVec 32) : IntOp.addi x 0#32 = x := BitVec.add_zero x
/-- Zero added on the left. -/
theorem zero_addi (x : BitVec 32) : IntOp.addi 0#32 x = x := BitVec.zero_add x
/-- Two words added in turn are their sum added. -/
theorem addi_addi (x a b : BitVec 32) : IntOp.addi (IntOp.addi x a) b = IntOp.addi x (a + b) := BitVec.add_assoc x a b

/-- A key word and the group's number are added as one word. -/
theorem keys_merge (a b n : BitVec 32) (p : Words) : keys a b n p = addKey a (b + n) p := by unfold keys addKey; rw [addi_addi]

/-- The first round on a high word of zero. -/
theorem turn_first (x : BitVec 32) : turn 13#32 19#32 (0#32, x) = firstRound x := by
  rw [turn_eq]
  unfold mix firstRound
  rw [zero_addi]

/-- On a counter whose high word is zero the schedule makes the word of `bits`. -/
theorem schedule_eq (k1 k2 x : BitVec 32) :
    IntOp.xori (schedule k1 k2 (0#32, x)).1 (schedule k1 k2 (0#32, x)).2 = bits k1 k2 (k2 + 1#32) (k1 + 3#32) (k2 + 4#32) x := by
  have h : ∀ p : Words, addKey 0#32 (k1 + 3#32) p = (p.1, IntOp.addi p.2 (k1 + 3#32)) := fun p => by unfold addKey; rw [addi_zero]
  unfold schedule bits groupOdd groupEven
  simp only [keys_merge, turn_first, BitVec.zero_add, h]
  simp only [turn_eq]
  rfl

/-! ## The words of key 1 -/

section One

variable (i : S32x64x2048.Idx)

/-- Group 1 of the words of key 1. -/
theorem one_1 : (val_main_v50 (F := Ideal) i, val_main_v54 (F := Ideal) i) = groupOdd 1#32 466688987#32 1#32 (val_main_v18 (F := Ideal) i, val_main_v20 (F := Ideal) i) := rfl
/-- Group 2 of the words of key 1. -/
theorem one_2 : (val_main_v84 (F := Ideal) i, val_main_v88 (F := Ideal) i) = groupEven 466688987#32 0#32 2#32 (val_main_v50 (F := Ideal) i, val_main_v54 (F := Ideal) i) := rfl
/-- Group 3 of the words of key 1. -/
theorem one_3 : (val_main_v118 (F := Ideal) i, val_main_v122 (F := Ideal) i) = groupOdd 0#32 1#32 3#32 (val_main_v84 (F := Ideal) i, val_main_v88 (F := Ideal) i) := rfl
/-- Group 4 of the words of key 1. -/
theorem one_4 : (val_main_v152 (F := Ideal) i, val_main_v156 (F := Ideal) i) = groupEven 1#32 466688987#32 4#32 (val_main_v118 (F := Ideal) i, val_main_v122 (F := Ideal) i) := rfl
/-- Group 5 of the words of key 1. -/
theorem one_5 : (val_main_v186 (F := Ideal) i, val_main_v190 (F := Ideal) i) = groupOdd 466688987#32 0#32 5#32 (val_main_v152 (F := Ideal) i, val_main_v156 (F := Ideal) i) := rfl

end One

/-! ## The words of key 2 -/

section Two

variable (i : S32x128x2048.Idx)

/-- Group 1 of the words of key 2. -/
theorem two_1 : (val_main_v251 (F := Ideal) i, val_main_v255 (F := Ideal) i) = groupOdd 2#32 466688984#32 1#32 (val_main_v219 (F := Ideal) i, val_main_v221 (F := Ideal) i) := rfl
/-- Group 2 of the words of key 2. -/
theorem two_2 : (val_main_v285 (F := Ideal) i, val_main_v289 (F := Ideal) i) = groupEven 466688984#32 0#32 2#32 (val_main_v251 (F := Ideal) i, val_main_v255 (F := Ideal) i) := rfl
/-- Group 3 of the words of key 2. -/
theorem two_3 : (val_main_v319 (F := Ideal) i, val_main_v323 (F := Ideal) i) = groupOdd 0#32 2#32 3#32 (val_main_v285 (F := Ideal) i, val_main_v289 (F := Ideal) i) := rfl
/-- Group 4 of the words of key 2. -/
theorem two_4 : (val_main_v353 (F := Ideal) i, val_main_v357 (F := Ideal) i) = groupEven 2#32 466688984#32 4#32 (val_main_v319 (F := Ideal) i, val_main_v323 (F := Ideal) i) := rfl
/-- Group 5 of the words of key 2. -/
theorem two_5 : (val_main_v387 (F := Ideal) i, val_main_v391 (F := Ideal) i) = groupOdd 466688984#32 0#32 5#32 (val_main_v353 (F := Ideal) i, val_main_v357 (F := Ideal) i) := rfl

end Two

end Cert.ReferenceIdeal.Words

end
-- ==== Proof.RefNoise.lean ====
/- The reference's noise: at every place it is the specification's noise of the word of that place's number. -/
module

public import proofs.«01_k».proof.Proof.RefWords
public import Idealize.ShloMosaic.Lib.Pointwise

@[expose] public section

noncomputable section

namespace Cert.ReferenceIdeal.Words

open Idealize.ShloMosaic Cert.ReferenceIdeal Cert.ReferenceIdeal.Read Cert.Sampling

/-- The exclusive or of a pair's parts. -/
theorem xor_of {a b : BitVec 32} {p : Words} (h : (a, b) = p) : IntOp.xori a b = IntOp.xori p.1 p.2 := by subst h; rfl

/-- The noise as the reference makes it of a word. -/
theorem noise_eq (w : BitVec 32) :
    FloatOps.hostNegf (F := Ideal) (φ := .f32) (FloatOps.hostUnary .log (FloatOps.hostNegf (FloatOps.hostUnary .log (FloatOps.maximumf (FloatOps.ofBits .f32 0x00800000#32)
      (FloatOps.subf (FloatOps.ofBits .f32 (IntOp.ori (IntOp.shrui .host w 9#32) 1065353216#32)) (FloatOps.ofBits .f32 0x3F800000#32)))))) = noise w := by
  have hone : Ideal.ofBits .f32 0x3F800000#32 = 1 := by pointwise []
  show -Ideal.log (-Ideal.log (max (Ideal.ofBits .f32 0x00800000#32) (Ideal.ofBits .f32 (IntOp.ori (IntOp.shrui .host w 9#32) 1065353216#32) - Ideal.ofBits .f32 0x3F800000#32))) = _
  rw [hone, max_comm, ValueIdx.shrui_host]; rfl

/-! ## Key 1 -/

section One

variable (i : S32x64x2048.Idx)

/-- The words of the samples of first rows. -/
theorem one_word : val_main_v191 (F := Ideal) i = bits 1#32 466688987#32 466688988#32 4#32 466688991#32 (val_main_v20 (F := Ideal) i) := by
  have h : (val_main_v186 (F := Ideal) i, val_main_v190 (F := Ideal) i) = schedule 1#32 466688987#32 (0#32, val_main_v20 (F := Ideal) i) := by
    have h0 : val_main_v18 (F := Ideal) i = 0#32 := by rw [val_main_v18_apply]; exact addi_zero _
    rw [one_5, one_4, one_3, one_2, one_1, h0, schedule]
  rw [val_main_v191_apply, xor_of h, schedule_eq,
    show (466688987#32 + 1#32 : BitVec 32) = 466688988#32 from by decide, show (1#32 + 3#32 : BitVec 32) = 4#32 from by decide,
    show (466688987#32 + 4#32 : BitVec 32) = 466688991#32 from by decide]

/-- The counter of a sample of a first row: its flat index plus the key word. -/
theorem one_counter (b : Fin 32) (r : Fin 64) (v : Fin 2048) :
    val_main_v20 (F := Ideal) (ix3 b r v) = IntOp.addi (BitVec.ofNat 32 (b.val * 131072 + r.val * 2048 + v.val)) 1#32 := by
  have h : val_main_v15 (F := Ideal) (ix3 b r v) = BitVec.ofNat 32 (b.val * 131072 + r.val * 2048 + v.val) := by
    rw [val_main_v15_apply, val_main_v14_apply]
    exact congrArg (BitVec.ofNat 32) (show (b.val * 64 + r.val) * 2048 + v.val = b.val * 131072 + r.val * 2048 + v.val by omega)
  rw [val_main_v20_apply, h]; rfl

/-- The noise of the samples of first rows. -/
theorem one_noise (b : Fin 32) (r : Fin 64) (v : Fin 2048) :
    val_main_v204 (F := Ideal) (ix3 b r v) = noise (bitsFirst (b.val * 131072 + r.val * 2048 + v.val)) := by
  rw [val_main_v204_apply, val_main_v203_apply, val_main_v202_apply, val_main_v201_apply, val_main_v200_apply, val_main_v199_apply, val_main_cst_62_apply,
    val_main_v198_apply, val_main_v197_apply, val_main_cst_61_apply, val_main_v196_apply, val_main_v195_apply, val_main_v194_apply, val_main_c_60_apply,
    val_main_v193_apply, val_main_v192_apply, val_main_c_59_apply, one_word, one_counter, bitsFirst]
  exact noise_eq _

end One

/-! ## Key 2 -/

section Two

variable (i : S32x128x2048.Idx)

/-- The words of the samples of all rows. -/
theorem two_word : val_main_v392 (F := Ideal) i = bits 2#32 466688984#32 466688985#32 5#32 466688988#32 (val_main_v221 (F := Ideal) i) := by
  have h : (val_main_v387 (F := Ideal) i, val_main_v391 (F := Ideal) i) = schedule 2#32 466688984#32 (0#32, val_main_v221 (F := Ideal) i) := by
    have h0 : val_main_v219 (F := Ideal) i = 0#32 := by rw [val_main_v219_apply]; exact addi_zero _
    rw [two_5, two_4, two_3, two_2, two_1, h0, schedule]
  rw [val_main_v392_apply, xor_of h, schedule_eq,
    show (466688984#32 + 1#32 : BitVec 32) = 466688985#32 from by decide, show (2#32 + 3#32 : BitVec 32) = 5#32 from by decide,
    show (466688984#32 + 4#32 : BitVec 32) = 466688988#32 from by decide]

/-- The counter of a sample of every row: its flat index plus the key word. -/
theorem two_counter (b : Fin 32) (r : Fin 128) (v : Fin 2048) :
    val_main_v221 (F := Ideal) (ix3 b r v) = IntOp.addi (BitVec.ofNat 32 (b.val * 262144 + r.val * 2048 + v.val)) 2#32 := by
  have h : val_main_v216 (F := Ideal) (ix3 b r v) = BitVec.ofNat 32 (b.val * 262144 + r.val * 2048 + v.val) := by
    rw [val_main_v216_apply, val_main_v215_apply]
    exact congrArg (BitVec.ofNat 32) (show (b.val * 128 + r.val) * 2048 + v.val = b.val * 262144 + r.val * 2048 + v.val by omega)
  rw [val_main_v221_apply, h]; rfl

/-- The noise of the samples of all rows. -/
theorem two_noise (b : Fin 32) (r : Fin 128) (v : Fin 2048) :
    val_main_v405 (F := Ideal) (ix3 b r v) = noise (bitsRows (b.val * 262144 + r.val * 2048 + v.val)) := by
  rw [val_main_v405_apply, val_main_v404_apply, val_main_v403_apply, val_main_v402_apply, val_main_v401_apply, val_main_v400_apply, val_main_cst_127_apply,
    val_main_v399_apply, val_main_v398_apply, val_main_cst_126_apply, val_main_v397_apply, val_main_v396_apply, val_main_v395_apply, val_main_c_125_apply,
    val_main_v394_apply, val_main_v393_apply, val_main_c_124_apply, two_word, two_counter, bitsRows]
  exact noise_eq _

end Two

end Cert.ReferenceIdeal.Words

end
-- ==== Proof.RefOps.lean ====
/- Operations of the reference at one index: the entries of the first ranks, a row's greatest entry, the entry at a named position. -/
module

public import proofs.«01_k».proof.Proof.Order
public import proofs.«01_k».proof.Proof.Spec
public import proofs.«01_k».proof.Proof.Gen.ReferenceIdeal
public import Idealize.ShloMosaic.Lib.Pointwise
public import Idealize.ShloMosaic.Lib.KernelVsHost
public import Idealize.ShloMosaic.Lib.ReduceAll
public import Idealize.ShloMosaic.Lib.ValueIdxCore
public import Idealize.ShloMosaic.Lib.StableHlo.Predicate

@[expose] public section

noncomputable section

namespace Cert.ReferenceIdeal.Ops

open Idealize.ShloMosaic Cert.ReferenceIdeal Cert.ReferenceIdeal.Gen Cert.Sampling

/-! ## The entries of the first ranks -/

/-- The order of the top-k operation is the order of the extended reals. -/
theorem gt_eq (x y : EReal) : ((FloatOps.cmpfTotal (F := Ideal) (φ := .f32) .gt x y) == 1#1) = decide (y < x) := by
  show (BitVec.ofBool (decide (y < x)) == 1#1) = _
  cases decide (y < x) <;> rfl

/-- The sorting's position of rank `k`. -/
theorem sorted_eq {n : Nat} (f : Fin n → EReal) (k : Fin n) :
    sortedFrom (fun a b => FloatOps.cmpfTotal (F := Ideal) (φ := .f32) .gt (f a) (f b) == 1#1) k = ranked f k := by
  unfold ranked
  refine congrArg (fun B => sortedFrom B k) ?_
  funext a b
  exact gt_eq (f a) (f b)

/-- An index of a matrix moved along its second axis. -/
theorem along_two {m n : Nat} (b : Fin m) (j k : Fin n) : (ix2 b j).along 1 k = ix2 b k := by
  funext a
  apply Fin.ext
  match a with
  | ⟨0, _⟩ => rfl
  | ⟨1, _⟩ => rfl

/-- An index of three axes moved along the last. -/
theorem along_three {l m n : Nat} (b : Fin l) (r : Fin m) (j k : Fin n) : (ix3 b r j).along 2 k = ix3 b r k := by
  funext a
  apply Fin.ext
  match a with
  | ⟨0, _⟩ => rfl
  | ⟨1, _⟩ => rfl
  | ⟨2, _⟩ => rfl

/-- A sort of an array with its positions, greatest first: at a place, the entry of that rank on the place's line. -/
theorem sort_values {s : Shape} (d : Fin s.rank) (x : s.Idx → EReal) (y : s.Idx → BitVec 32) (j : s.Idx) :
    (Host.sort2 s d.val (fun l r => FloatOps.cmpfTotal (F := Ideal) (φ := .f32) .gt l.1 r.1) x y).1 j
      = x (j.along d (ranked (fun v => x (j.along d v)) (j d))) := by
  rw [← sorted_eq]
  unfold Host.sort2
  rw [dif_pos d.isLt]

/-- The same sort's positions: at a place, the position of the entry of that rank. -/
theorem sort_places {s : Shape} (d : Fin s.rank) (x : s.Idx → EReal) (y : s.Idx → BitVec 32) (j : s.Idx) :
    (Host.sort2 s d.val (fun l r => FloatOps.cmpfTotal (F := Ideal) (φ := .f32) .gt l.1 r.1) x y).2 j
      = y (j.along d (ranked (fun v => x (j.along d v)) (j d))) := by
  rw [← sorted_eq]
  unfold Host.sort2
  rw [dif_pos d.isLt]

/-- The array of positions on an axis, at a place moved along the axis. -/
theorem position {s : Shape} (d : Fin s.rank) (j : s.Idx) (k : Fin (s.size d)) :
    (if hd : d.val < s.rank then iotaInDim s 32 ⟨d.val, hd⟩ (j.along d k) else 0#32) = BitVec.ofNat 32 k.val := by
  rw [dif_pos d.isLt]
  unfold iotaInDim Shape.Idx.along
  simp

/-- The 64 greatest entries of each row. -/
theorem top_values (x : S32x2048.Idx → EReal) (h) (b : Fin 32) (j : Fin 64) :
    (Host.topK S32x64 1 (FloatOps.cmpfTotal (F := Ideal) (φ := .f32) .gt) x h).1 (ix2 b j)
      = x (ix2 b (ranked (fun v => x (ix2 b v)) ⟨j.val, by omega⟩)) := by
  dsimp only [Host.topK]
  refine (extractStridedSlice_apply _ _ h (ix2 b j) (ix2 b (⟨j.val, by omega⟩ : Fin 2048)) (fun a => ?_)).trans ?_
  · match a with
    | ⟨0, _⟩ => exact (Nat.zero_add _).symm
    | ⟨1, _⟩ => exact (Nat.zero_add _).symm
  refine (sort_values (s := S32x2048) (1 : Fin 2) x _ _).trans ?_
  have e : (fun v : Fin 2048 => x ((ix2 b (⟨j.val, by omega⟩ : Fin 2048)).along 1 v)) = fun v => x (ix2 b v) := funext fun v => congrArg x (along_two b _ v)
  exact (congrArg x (along_two b _ _)).trans (congrArg (fun f => x (ix2 b (ranked f (⟨j.val, by omega⟩ : Fin 2048)))) e)

/-- Their positions. -/
theorem top_places (x : S32x2048.Idx → EReal) (h) (b : Fin 32) (j : Fin 64) :
    (Host.topK S32x64 1 (FloatOps.cmpfTotal (F := Ideal) (φ := .f32) .gt) x h).2 (ix2 b j)
      = BitVec.ofNat 32 (ranked (fun v => x (ix2 b v)) ⟨j.val, by omega⟩).val := by
  dsimp only [Host.topK]
  refine (extractStridedSlice_apply _ _ h (ix2 b j) (ix2 b (⟨j.val, by omega⟩ : Fin 2048)) (fun a => ?_)).trans ?_
  · match a with
    | ⟨0, _⟩ => exact (Nat.zero_add _).symm
    | ⟨1, _⟩ => exact (Nat.zero_add _).symm
  refine (sort_places (s := S32x2048) (1 : Fin 2) x _ _).trans ?_
  have e : (fun v : Fin 2048 => x ((ix2 b (⟨j.val, by omega⟩ : Fin 2048)).along 1 v)) = fun v => x (ix2 b v) := funext fun v => congrArg x (along_two b _ v)
  refine (position (s := S32x2048) (1 : Fin 2) _ _).trans ?_
  exact congrArg (fun f => BitVec.ofNat 32 (ranked f (⟨j.val, by omega⟩ : Fin 2048)).val) e

/-- The position of the greatest entry of each line of an array of rows. -/
theorem first_place {m : Nat} (x : (⟨3, ![32, m, 2048]⟩ : Shape).Idx → EReal) (h) (b : Fin 32) (r : Fin m) :
    (Host.topK ⟨3, ![32, m, 1]⟩ 2 (FloatOps.cmpfTotal (F := Ideal) (φ := .f32) .gt) x h).2 (ix3 b r 0)
      = BitVec.ofNat 32 (firstMax fun v => x (ix3 b r v)).val := by
  rw [← ranked_zero]
  dsimp only [Host.topK]
  refine (extractStridedSlice_apply _ _ h (ix3 b r 0) (ix3 b r (0 : Fin 2048)) (fun a => ?_)).trans ?_
  · match a with
    | ⟨0, _⟩ => exact (Nat.zero_add _).symm
    | ⟨1, _⟩ => exact (Nat.zero_add _).symm
    | ⟨2, _⟩ => rfl
  refine (sort_places (s := ⟨3, ![32, m, 2048]⟩) (2 : Fin 3) x _ _).trans ?_
  have e : (fun v : Fin 2048 => x ((ix3 b r (0 : Fin 2048)).along 2 v)) = fun v => x (ix3 b r v) := funext fun v => congrArg x (along_three b r _ v)
  refine (position (s := ⟨3, ![32, m, 2048]⟩) (2 : Fin 3) _ _).trans ?_
  exact congrArg (fun f => BitVec.ofNat 32 (ranked f (0 : Fin 2048)).val) e

/-! ## The entry at a named position -/

/-- Of each row of one array, the entry whose position another array names. -/
theorem take_two {α : Type} (x : S32x2048.Idx → α) (p : IVec S32x64x1 32) (b : Fin 32) (j : Fin 64) (k : Fin 2048)
    (hp : p (ix3 b j 0) = BitVec.ofNat 32 k.val) :
    Host.gather gather_S32x2048_S32x64x1_S32x64_n_1_0_0_1_2_11 x p (ix2 b j) = x (ix2 b k) := by
  refine congrArg x (funext fun a => Fin.ext ?_)
  have hk : min (p (ix3 b j 0)).toInt.toNat (2048 - 1) = k.val := by
    rw [hp, StableHlo.Predicate.toInt_ofNat_small _ (by omega)]; omega
  match a with
  | ⟨0, _⟩ => show 0 + b.val + 0 = b.val; omega
  | ⟨1, _⟩ =>
    refine Eq.trans ?_ hk
    have e : gather_S32x2048_S32x64x1_S32x64_n_1_0_0_1_2_11.siIdx (ix2 b j) ⟨0, Nat.one_pos⟩ = ix3 b j 0 := by
      funext a
      apply Fin.ext
      match a with
      | ⟨0, _⟩ => rfl
      | ⟨1, _⟩ => rfl
      | ⟨2, _⟩ => rfl
    rw [← e]; rfl

/-- The same for an array of rows of batches. -/
theorem take_three {α : Type} (x : S32x128x2048.Idx → α) (p : IVec S32x128x1x1 32) (b : Fin 32) (r : Fin 128) (k : Fin 2048)
    (hp : ∀ i, (i 0).val = b.val → (i 1).val = r.val → p i = BitVec.ofNat 32 k.val) :
    Host.gather gather_S32x128x2048_S32x128x1x1_S32x128x1_n_2_01_01_2_3_111 x p (ix3 b r 0) = x (ix3 b r k) := by
  refine congrArg x (funext fun a => Fin.ext ?_)
  match a with
  | ⟨0, _⟩ => show 0 + b.val + 0 = b.val; omega
  | ⟨1, _⟩ => show 0 + r.val + 0 = r.val; omega
  | ⟨2, _⟩ =>
    have hk : min (p (gather_S32x128x2048_S32x128x1x1_S32x128x1_n_2_01_01_2_3_111.siIdx (ix3 b r 0) ⟨0, Nat.one_pos⟩)).toInt.toNat (2048 - 1) = k.val := by
      rw [hp _ rfl rfl, StableHlo.Predicate.toInt_ofNat_small _ (by omega)]; omega
    exact Eq.trans rfl hk

/-! ## Reductions -/

/-- Each row's greatest entry. -/
theorem reduce_max (x : FVec Ideal S32x128x2048 .f32) (h : S32x128x2048.ReducesTo [2] S32x128) (hu : 0 < S_.numel) (b : Fin 32) (r : Fin 128) :
    Host.reduce FloatOps.maximumf x (constant S_ .f32 0xFF800000#32) h hu (ix2 b r) = rowMax fun v => x (ix3 b r v) := by
  rw [hostReduce_maximumf_eq_multiReduction (axes := [2]) x 0xFF800000#32 h hu ⟨h.1, by decide, h.2⟩ (by decide) rfl]
  unfold rowMax
  pointwise [ofBits_negInf]

end Cert.ReferenceIdeal.Ops

end
-- ==== Proof.RefProb.lean ====
/- The reference's probabilities and scores under a mask of zeros: each is the specification's value of the logits' rows. -/
module

public import proofs.«01_k».proof.Proof.RefNoise
public import proofs.«01_k».proof.Proof.RefOps

@[expose] public section

noncomputable section

namespace Cert.ReferenceIdeal.Prob

open Idealize.ShloMosaic Cert.ReferenceIdeal Cert.ReferenceIdeal.Gen Cert.ReferenceIdeal.Read Cert.ReferenceIdeal.Ops Cert.ReferenceIdeal.Words Cert.Sampling

/-- Row `r` of batch `b`. -/
def line (x : S32x128x2048.Idx → EReal) (b : Fin 32) (r : Fin 128) : Fin 2048 → EReal := fun v => x (ix3 b r v)

/-- An index by its two coordinates. -/
theorem at_two {m n : Nat} (i : (⟨2, ![m, n]⟩ : Shape).Idx) (b : Fin m) (r : Fin n) (h0 : (i 0).val = b.val) (h1 : (i 1).val = r.val) : i = ix2 b r := by
  funext a
  apply Fin.ext
  match a with
  | ⟨0, _⟩ => exact h0
  | ⟨1, _⟩ => exact h1

/-- An index by its three coordinates. -/
theorem at_three {l m n : Nat} (i : (⟨3, ![l, m, n]⟩ : Shape).Idx) (b : Fin l) (r : Fin m) (v : Fin n) (h0 : (i 0).val = b.val)
    (h1 : (i 1).val = r.val) (h2 : (i 2).val = v.val) : i = ix3 b r v := by
  funext a
  apply Fin.ext
  match a with
  | ⟨0, _⟩ => exact h0
  | ⟨1, _⟩ => exact h1
  | ⟨2, _⟩ => exact h2

variable (x0 x1 : FVec Ideal S32x128x2048 .f32) (hm : ∀ i, x1 i = (0 : EReal)) (b : Fin 32)

include hm

/-- A mask of zeros changes no logit. -/
theorem masked : val_main_v0 (F := Ideal) x0 x1 = x0 := by
  funext i
  rw [val_main_v0_apply, hm]
  exact add_zero (x0 i : EReal)

/-- Each row's greatest logit. -/
theorem greatest (r : Fin 128) : val_main_v3 (F := Ideal) x0 x1 (ix2 b r) = rowMax (line x0 b r) := by
  have h : val_main_v1 (F := Ideal) x0 x1 (ix2 b r) = rowMax (line x0 b r) := by
    unfold val_main_v1
    rw [masked x0 x1 hm]
    exact reduce_max x0 _ _ b r
  rw [val_main_v3_apply, val_main_v2_apply, val_main_cst_0_apply, h]
  show max (Ideal.ofBits .f32 0xFF800000#32) _ = _
  rw [ofBits_negInf]
  exact bot_sup_eq _

/-- The exponential of each logit, the row's greatest taken off. -/
theorem shifted (r : Fin 128) (v : Fin 2048) :
    val_main_v7 (F := Ideal) x0 x1 (ix3 b r v) = Ideal.exp (line x0 b r v - rowMax (line x0 b r)) := by
  rw [val_main_v7_apply, val_main_v6_apply, masked x0 x1 hm, val_main_v5_apply, val_main_v4_apply,
    at_two (idx_main_v4 (idx_main_v5 (ix3 b r v))) b r rfl rfl, greatest x0 x1 hm]
  rfl

/-- The sum of a row's exponentials. -/
theorem total (r : Fin 128) (v : Fin 2048) :
    val_main_v10 (F := Ideal) x0 x1 (ix3 b r v) = ∑ w, Ideal.exp (line x0 b r w - rowMax (line x0 b r)) := by
  have hz : Ideal.ofBits .f32 0x00000000#32 = 0 := by pointwise []
  rw [val_main_v10_apply, val_main_v9_apply, at_two (idx_main_v9 (idx_main_v10 (ix3 b r v))) b r rfl rfl, val_main_v8_apply, val_main_cst_1_apply]
  show Ideal.ofBits .f32 0x00000000#32 + _ = _
  rw [hz, zero_add]
  refine Finset.sum_congr rfl fun k _ => ?_
  rw [at_three (idx_main_v8 (ix2 b r) k) b r k rfl rfl rfl, shifted x0 x1 hm]

/-- The probabilities. -/
theorem probs (r : Fin 128) (v : Fin 2048) : val_main_v11 (F := Ideal) x0 x1 (ix3 b r v) = softmax (line x0 b r) v := by
  rw [val_main_v11_apply, shifted x0 x1 hm, total x0 x1 hm]; rfl

/-- The first rows' probabilities. -/
theorem first_probs (v : Fin 2048) : val_main_v13 (F := Ideal) x0 x1 (ix2 b v) = softmax (line x0 b 0) v := by
  have hv := v.isLt
  rw [val_main_v13_apply, val_main_v12_apply,
    at_three (idx_main_v12 (idx_main_v13 (ix2 b v))) b 0 v (show (b.val * 2048 + v.val) / 2048 = b.val by omega) rfl
      (show (b.val * 2048 + v.val) % 2048 = v.val by omega), probs x0 x1 hm]

/-- The scores of the first rows' samples. -/
theorem first_scores (s : Fin 64) (v : Fin 2048) : val_main_v210 (F := Ideal) x0 x1 (ix3 b s v) = scoreFirst (line x0 b 0) b.val s.val v := by
  rw [val_main_v210_apply, val_main_v209_apply, val_main_v208_apply, at_two (idx_main_v208 (idx_main_v209 (ix3 b s v))) b v rfl rfl,
    val_main_v207_apply, val_main_v206_apply, val_main_v205_apply, val_main_cst_63_apply, first_probs x0 x1 hm, one_noise]
  rfl

/-- The scores of every row's sample. -/
theorem row_scores (r : Fin 128) (v : Fin 2048) : val_main_v409 (F := Ideal) x0 x1 (ix3 b r v) = scoreRows (line x0 b r) b.val r.val v := by
  rw [val_main_v409_apply, val_main_v408_apply, val_main_v407_apply, val_main_v406_apply, val_main_cst_128_apply, probs x0 x1 hm, two_noise]
  rfl

end Cert.ReferenceIdeal.Prob

end
-- ==== Proof.RefPick.lean ====
/- The reference's four results under a mask of zeros, place by place. -/
module

public import proofs.«01_k».proof.Proof.RefProb

@[expose] public section

noncomputable section

namespace Cert.ReferenceIdeal.Pick

open Idealize.ShloMosaic Cert.ReferenceIdeal Cert.ReferenceIdeal.Gen Cert.ReferenceIdeal.Read Cert.ReferenceIdeal.Ops Cert.ReferenceIdeal.Prob Cert.Sampling

/-! ## A position's word is within bounds -/

/-- A position's word is not negative. -/
theorem not_negative (k : Fin 2048) : IntOp.cmpi .slt (BitVec.ofNat 32 k.val) 0#32 = 0#1 := by
  have hk := k.isLt
  have h := StableHlo.Predicate.toInt_ofNat_small k.val (by omega)
  show BitVec.ofBool ((BitVec.ofNat 32 k.val).slt 0#32) = 0#1
  rw [BitVec.slt, h, decide_eq_false (by simp)]
  rfl

/-- It is between zero and the last position. -/
theorem within (k : Fin 2048) : IntOp.andi (IntOp.cmpi .sge (BitVec.ofNat 32 k.val) 0#32) (IntOp.cmpi .sle (BitVec.ofNat 32 k.val) 2047#32) = 1#1 := by
  have hk := k.isLt
  have h := StableHlo.Predicate.toInt_ofNat_small k.val (by omega)
  have e1 : IntOp.cmpi .sge (BitVec.ofNat 32 k.val) 0#32 = 1#1 := by
    show BitVec.ofBool ((0#32 : BitVec 32).sle (BitVec.ofNat 32 k.val)) = 1#1
    rw [BitVec.sle, h, decide_eq_true (by simp)]
    rfl
  have e2 : IntOp.cmpi .sle (BitVec.ofNat 32 k.val) 2047#32 = 1#1 := by
    show BitVec.ofBool ((BitVec.ofNat 32 k.val).sle 2047#32) = 1#1
    rw [BitVec.sle, h, show (2047#32 : BitVec 32).toInt = 2047 from by decide, decide_eq_true (by omega)]
    rfl
  rw [e1, e2]; rfl

variable (x0 x1 : FVec Ideal S32x128x2048 .f32) (hm : ∀ i, x1 i = (0 : EReal)) (b : Fin 32)

include hm

/-! ## The first rows -/

/-- The positions of the greatest probabilities. -/
theorem top_position (j : Fin 64) :
    val_main_indices (F := Ideal) x0 x1 (ix2 b j) = BitVec.ofNat 32 (ranked (softmax (line x0 b 0)) ⟨j.val, by omega⟩).val := by
  unfold val_main_indices
  rw [top_places]
  exact congrArg (fun f => BitVec.ofNat 32 (ranked f (⟨j.val, by omega⟩ : Fin 2048)).val) (funext fun v => first_probs x0 x1 hm b v)

/-- The greatest probabilities. -/
theorem top_value (j : Fin 64) :
    val_main_values (F := Ideal) x0 x1 (ix2 b j) = softmax (line x0 b 0) (ranked (softmax (line x0 b 0)) ⟨j.val, by omega⟩) := by
  unfold val_main_values
  rw [top_values, first_probs x0 x1 hm]
  exact congrArg (fun f => softmax (line x0 b 0) (ranked f (⟨j.val, by omega⟩ : Fin 2048))) (funext fun v => first_probs x0 x1 hm b v)

/-- The samples' positions. -/
theorem first_position (s : Fin 64) : val_main_v211 (F := Ideal) x0 x1 (ix2 b s) = BitVec.ofNat 32 (pickFirst (line x0 b 0) b.val s.val).val := by
  have hs := s.isLt
  rw [val_main_v211_apply, at_three (idx_main_v211 (ix2 b s)) b s 0 (show (b.val * 64 + s.val) / 64 = b.val by omega)
    (show (b.val * 64 + s.val) / 1 % 64 = s.val by omega) rfl]
  unfold val_main_indices_65
  refine (first_place (m := 64) (val_main_v210 (F := Ideal) x0 x1) _ b s).trans ?_
  exact congrArg (fun f => BitVec.ofNat 32 (firstMax f).val) (funext fun v => first_scores x0 x1 hm b s v)

/-- The position the probability of a first row's sample is taken at. -/
theorem first_taken (s : Fin 64) : val_main_call0_v5 (F := Ideal) x0 x1 (ix3 b s 0) = BitVec.ofNat 32 (pickFirst (line x0 b 0) b.val s.val).val := by
  have hs := s.isLt
  rw [val_main_call0_v5_apply, at_two (idx_main_call0_v5 (ix3 b s 0)) b s (show ((b.val * 64 + s.val) * 1 + 0) / 64 = b.val by omega)
    (show ((b.val * 64 + s.val) * 1 + 0) % 64 = s.val by omega),
    val_main_call0_v4_apply, val_main_call0_v1_apply, val_main_call0_v0_apply, val_main_call0_c_apply, first_position x0 x1 hm, not_negative]
  rfl

/-- No such position is out of bounds. -/
theorem first_inside (i : S32x64.Idx) : val_main_call0_v12 (F := Ideal) x0 x1 i = 1#1 := by
  unfold val_main_call0_v12
  refine Host.reduce_andi_one _ _ _ _ _ rfl fun i => ?_
  obtain ⟨b, s, rfl⟩ : ∃ (b : Fin 32) (s : Fin 64), i = ix3 b s 0 := ⟨i 0, i 1, at_three i _ _ _ rfl rfl (Nat.lt_one_iff.mp (i 2).isLt)⟩
  rw [val_main_call0_v11_apply, val_main_call0_v7_apply, val_main_call0_v10_apply, val_main_call0_v6_apply, val_main_call0_v9_apply,
    val_main_call0_v8_apply, val_main_call0_c_1_apply, val_main_call0_c_2_apply, first_taken x0 x1 hm, within]

/-- The samples' probabilities. -/
theorem first_value (s : Fin 64) :
    val_main_v212 (F := Ideal) x0 x1 (ix2 b s) = softmax (line x0 b 0) (pickFirst (line x0 b 0) b.val s.val) := by
  rw [val_main_v212_apply, first_inside x0 x1 hm]
  show val_main_call0_v13 (F := Ideal) x0 x1 (ix2 b s) = _
  unfold val_main_call0_v13
  rw [take_two _ _ b s _ (first_taken x0 x1 hm b s), first_probs x0 x1 hm]

/-! ## Every row -/

/-- The samples' positions: the third result. -/
theorem row_position (r : Fin 128) : val_main_v410 (F := Ideal) x0 x1 (ix2 b r) = BitVec.ofNat 32 (pickRows (line x0 b r) b.val r.val).val := by
  have hr := r.isLt
  rw [val_main_v410_apply, at_three (idx_main_v410 (ix2 b r)) b r 0 (show (b.val * 128 + r.val) / 128 = b.val by omega)
    (show (b.val * 128 + r.val) / 1 % 128 = r.val by omega) rfl]
  unfold val_main_indices_130
  refine (first_place (m := 128) (val_main_v409 (F := Ideal) x0 x1) _ b r).trans ?_
  exact congrArg (fun f => BitVec.ofNat 32 (firstMax f).val) (funext fun v => row_scores x0 x1 hm b r v)

/-- The position the probability of a row's sample is taken at. -/
theorem row_taken (r : Fin 128) (i : S32x128x1x1.Idx) (h0 : (i 0).val = b.val) (h1 : (i 1).val = r.val) :
    val_main_call1_v5 (F := Ideal) x0 x1 i = BitVec.ofNat 32 (pickRows (line x0 b r) b.val r.val).val := by
  have hr := r.isLt
  have h2 : (i 2).val = 0 := Nat.lt_one_iff.mp (i 2).isLt
  have h3 : (i 3).val = 0 := Nat.lt_one_iff.mp (i 3).isLt
  rw [val_main_call1_v5_apply, at_three (idx_main_call1_v5 i) b r 0
      (show ((((i 0).val * 128 + (i 1).val) * 1 + (i 2).val) * 1 + (i 3).val) / 128 = b.val by rw [h0, h1, h2, h3]; omega)
      (show ((((i 0).val * 128 + (i 1).val) * 1 + (i 2).val) * 1 + (i 3).val) / 1 % 128 = r.val by rw [h0, h1, h2, h3]; omega) rfl,
    val_main_call1_v4_apply, val_main_call1_v1_apply, val_main_call1_v0_apply, val_main_call1_c_apply, val_main_v411_apply,
    at_two (idx_main_v411 (ix3 b r 0)) b r rfl rfl, row_position x0 x1 hm, not_negative]
  rfl

/-- No such position is out of bounds. -/
theorem row_inside (i : S32x128x1.Idx) : val_main_call1_v12 (F := Ideal) x0 x1 i = 1#1 := by
  unfold val_main_call1_v12
  refine Host.reduce_andi_one _ _ _ _ _ rfl fun i => ?_
  rw [val_main_call1_v11_apply, val_main_call1_v7_apply, val_main_call1_v10_apply, val_main_call1_v6_apply, val_main_call1_v9_apply,
    val_main_call1_v8_apply, val_main_call1_c_1_apply, val_main_call1_c_2_apply, row_taken x0 x1 hm (i 0) (i 1) i rfl rfl, within]

/-- The samples' probabilities. -/
theorem row_value (r : Fin 128) :
    val_main_v413 (F := Ideal) x0 x1 (ix2 b r) = softmax (line x0 b r) (pickRows (line x0 b r) b.val r.val) := by
  have hr := r.isLt
  rw [val_main_v413_apply, at_three (idx_main_v413 (ix2 b r)) b r 0 (show (b.val * 128 + r.val) / 128 = b.val by omega)
    (show (b.val * 128 + r.val) / 1 % 128 = r.val by omega) rfl, val_main_v412_apply, row_inside x0 x1 hm]
  show val_main_call1_v13 (F := Ideal) x0 x1 (ix3 b r 0) = _
  unfold val_main_call1_v13
  rw [take_three _ _ b r _ (row_taken x0 x1 hm b r), probs x0 x1 hm]

end Cert.ReferenceIdeal.Pick

end
-- ==== Proof.Equation.lean ====
/- The equation: under a mask of zeros, the reference's four results are the kernel's four functions of the logits. -/
module

public import proofs.«01_k».proof.Proof.KernelValue
public import proofs.«01_k».proof.Proof.RefPick
public import Idealize.ShloMosaic.Lib.Pipeline.Value

@[expose] public section

noncomputable section

namespace Cert.Equation

open Idealize.ShloMosaic Cert.ReferenceIdeal.Read Cert.ReferenceIdeal.Prob Cert.ReferenceIdeal.Pick Cert.KernelIdeal.Arrays Cert.KernelIdeal.Finish
  Cert.KernelIdeal.KernelValue Cert.Sampling

/-- A column of an array of two halves lies in the left one or the right one. -/
theorem halves {P : Cert.ReferenceIdeal.S32x128.Idx → Prop} (hl : ∀ (b : Fin 32) (j : Fin 64), P (ix2 b (⟨j.val, by omega⟩ : Fin 128)))
    (hr : ∀ (b : Fin 32) (j : Fin 64), P (ix2 b (⟨64 + j.val, by omega⟩ : Fin 128))) (i : Cert.ReferenceIdeal.S32x128.Idx) : P i := by
  obtain ⟨b, c, rfl⟩ : ∃ (b : Fin 32) (c : Fin 128), i = ix2 b c := ⟨i 0, i 1, eq_two i⟩
  rcases Nat.lt_or_ge c.val 64 with h | h
  · exact hl b ⟨c.val, h⟩
  · have hc := c.isLt
    have e : (⟨64 + (c.val - 64), by omega⟩ : Fin 128) = c := Fin.ext (show 64 + (c.val - 64) = c.val by omega)
    exact e ▸ hr b ⟨c.val - 64, by omega⟩

/-- Two arrays of 64 columns put side by side. -/
theorem joined {α : Type} (x y : Cert.ReferenceIdeal.S32x64.Idx → α)
    (h : Shape.Concatenates [Cert.ReferenceIdeal.S32x64, Cert.ReferenceIdeal.S32x64] Cert.ReferenceIdeal.S32x128 1) :
    concatenate Cert.ReferenceIdeal.S32x128 1 [⟨Cert.ReferenceIdeal.S32x64, x⟩, ⟨Cert.ReferenceIdeal.S32x64, y⟩] h
      = beside (fun b j => x (ix2 b j)) fun b j => y (ix2 b j) := by
  funext i
  refine halves (P := fun i => concatenate Cert.ReferenceIdeal.S32x128 1 [⟨Cert.ReferenceIdeal.S32x64, x⟩, ⟨Cert.ReferenceIdeal.S32x64, y⟩] h i
    = beside (fun b j => x (ix2 b j)) (fun b j => y (ix2 b j)) i) (fun b j => ?_) (fun b j => ?_) i
  · rw [beside_left]
    refine concatenate_pair_apply_left (t := Cert.ReferenceIdeal.S32x128) 1 x y h _ rfl (ix2 b j) fun a => ?_
    match a with
    | ⟨0, _⟩ => rfl
    | ⟨1, _⟩ => rfl
  · rw [beside_right]
    refine concatenate_pair_apply_right (t := Cert.ReferenceIdeal.S32x128) 1 x y h _ rfl rfl (ix2 b j) (fun a ha => ?_) ?_
    · match a with
      | ⟨0, _⟩ => rfl
      | ⟨1, _⟩ => exact absurd rfl ha
    · exact Nat.add_comm j.val 64

/-- A choice between two arrays by one scalar condition. -/
theorem guarded (w : Cert.ReferenceIdeal.S_.Idx → BitVec 1) (x y : Cert.ReferenceIdeal.S32x128.Idx → EReal) (i : Cert.ReferenceIdeal.S32x128.Idx) :
    select (broadcastInDim Cert.ReferenceIdeal.S32x128 ![] Cert.ReferenceIdeal.Gen.bcast_S_S32x128 w) x y i
      = if w (fun a => a.elim0) = 1#1 then x i else y i := by
  have e := broadcastInDim_apply _ Cert.ReferenceIdeal.Gen.bcast_S_S32x128 w i (fun a => a.elim0) (fun a => a.elim0)
  show Scalar.select (broadcastInDim Cert.ReferenceIdeal.S32x128 ![] Cert.ReferenceIdeal.Gen.bcast_S_S32x128 w i) (x i) (y i) = _
  rw [e]
  rfl

/-- Where no sampled probability is zero they are returned as they are. -/
theorem lifted_pos (x : FVec Ideal Cert.KernelIdeal.S32x1x128 .f32) (h : ∀ (b : Fin 32) (r : Fin 128), x (ix3 b 0 r) ≠ (0 : EReal)) (b : Fin 32) (r : Fin 128) :
    lifted x (ix2 b r) = x (ix3 b 0 r) := if_pos h

/-- Where one is zero all of them are raised. -/
theorem lifted_neg (x : FVec Ideal Cert.KernelIdeal.S32x1x128 .f32) (h : ¬ ∀ (b : Fin 32) (r : Fin 128), x (ix3 b 0 r) ≠ (0 : EReal)) (b : Fin 32) (r : Fin 128) :
    lifted x (ix2 b r) = x (ix3 b 0 r) + Ideal.ofBits .f32 0x358637BD#32 := if_neg h

variable (x0 x1 : FVec Ideal Cert.ReferenceIdeal.S32x128x2048 .f32) (hm : ∀ i, x1 i = (0 : EReal))

include hm

/-- The positions of the first result. -/
theorem positions : val_main_v213 (F := Ideal) x0 x1 = selected1 x0 := by
  unfold val_main_v213
  refine (joined _ _ _).trans ?_
  unfold selected1 chosen
  refine congrArg₂ beside (funext fun b => funext fun j => top_position x0 x1 hm b j) (funext fun b => funext fun j => ?_)
  refine (first_position x0 x1 hm b j).trans ?_
  show _ = BitVec.ofNat 32 (pickFirst (line x0 b 0) (0 + b.val) j.val).val
  rw [Nat.zero_add]

/-- The probabilities of the second result. -/
theorem probabilities : val_main_v214 (F := Ideal) x0 x1 = prob1 x0 := by
  unfold val_main_v214
  refine (joined _ _ _).trans ?_
  unfold prob1 chosenProb
  refine congrArg₂ beside (funext fun b => funext fun j => top_value x0 x1 hm b j) (funext fun b => funext fun j => ?_)
  refine (first_value x0 x1 hm b j).trans ?_
  show _ = softmax (line x0 b 0) (pickFirst (line x0 b 0) (0 + b.val) j.val)
  rw [Nat.zero_add]

/-- The positions of the third result. -/
theorem row_positions : val_main_v410 (F := Ideal) x0 x1 = selected2 x0 := by
  funext i
  obtain ⟨b, r, rfl⟩ : ∃ (b : Fin 32) (r : Fin 128), i = ix2 b r := ⟨i 0, i 1, eq_two i⟩
  refine (row_position x0 x1 hm b r).trans ?_
  show _ = BitVec.ofNat 32 (pickRows (line x0 b r) (0 + b.val) r.val).val
  rw [Nat.zero_add]

/-- The probabilities sampled in every row, before the last step. -/
theorem row_values (b : Fin 32) (r : Fin 128) : val_main_v413 (F := Ideal) x0 x1 (ix2 b r) = valRows 0 x0 (ix3 b 0 r) := by
  refine (row_value x0 x1 hm b r).trans ?_
  show _ = softmax (line x0 b r) (pickRows (line x0 b r) (0 + b.val) r.val)
  rw [Nat.zero_add]

/-- A comparison of a sampled probability with zero. -/
theorem nonzero_word (b : Fin 32) (r : Fin 128) : val_main_v415 (F := Ideal) x0 x1 (ix2 b r) = 1#1 ↔ valRows 0 x0 (ix3 b 0 r) ≠ (0 : EReal) := by
  have hz : Ideal.ofBits .f32 0x00000000#32 = 0 := by pointwise []
  rw [val_main_v415_apply, val_main_v414_apply, val_main_cst_131_apply, row_values x0 x1 hm]
  show BitVec.ofBool (decide ((valRows 0 x0 (ix3 b 0 r) : EReal) ≠ Ideal.ofBits .f32 0x00000000#32)) = 1#1 ↔ _
  rw [hz]
  by_cases h : (valRows 0 x0 (ix3 b 0 r) : EReal) = 0 <;> simp [h]

/-- The conjunction of all comparisons. -/
theorem all_nonzero (i : Cert.ReferenceIdeal.S_.Idx) :
    val_main_v416 (F := Ideal) x0 x1 i = 1#1 ↔ ∀ (b : Fin 32) (r : Fin 128), valRows 0 x0 (ix3 b 0 r) ≠ (0 : EReal) := by
  unfold val_main_v416
  haveI : Subsingleton Cert.ReferenceIdeal.S_.Idx := ⟨fun p q => funext fun a => a.elim0⟩
  constructor
  · intro h b r
    exact (nonzero_word x0 x1 hm b r).mp (Host.reduce_andi_all _ _ _ _ i h (ix2 b r))
  · intro h
    refine Host.reduce_andi_one _ _ _ _ _ rfl fun y => ?_
    obtain ⟨b, r, rfl⟩ : ∃ (b : Fin 32) (r : Fin 128), y = ix2 b r := ⟨y 0, y 1, eq_two y⟩
    exact (nonzero_word x0 x1 hm b r).mpr (h b r)

/-- The probabilities of the fourth result. -/
theorem row_probabilities : val_main_v419 (F := Ideal) x0 x1 = prob2 x0 := by
  funext i
  obtain ⟨b, r, rfl⟩ : ∃ (b : Fin 32) (r : Fin 128), i = ix2 b r := ⟨i 0, i 1, eq_two i⟩
  unfold val_main_v419
  refine (guarded _ _ _ _).trans ?_
  rw [val_main_v418_apply, val_main_v417_apply, val_main_cst_133_apply, row_values x0 x1 hm]
  by_cases h : ∀ (b : Fin 32) (r : Fin 128), valRows 0 x0 (ix3 b 0 r) ≠ (0 : EReal)
  · rw [if_pos ((all_nonzero x0 x1 hm _).mpr h)]
    exact (lifted_pos _ h b r).symm
  · rw [if_neg fun e => h ((all_nonzero x0 x1 hm _).mp e)]
    exact (lifted_neg _ h b r).symm

end Cert.Equation

end
-- ==== Proof.Pre.lean ====
/- The precondition, read: the mask is zero everywhere and the greatest logit of each batch entry's first row is finite. -/
module

public import proofs.«01_k».proof.Proof.Gen.Pre_plain_input
public import proofs.«01_k».proof.Proof.KernelValue
public import proofs.«01_k».proof.Proof.RefOps

@[expose] public section

noncomputable section

namespace Cert.Pre_plain_input.Reading

open Idealize.ShloMosaic Cert.Pre_plain_input Cert.Pre_plain_input.Gen Cert.Sampling Cert.KernelIdeal.Arrays Cert.KernelIdeal.KernelValue

/-- Every batch entry's first row. -/
abbrev first (x : FVec Ideal S32x128x2048 .f32) : FVec Ideal S32x2048 .f32 :=
  shapeCast S32x2048 (extractStridedSlice S32x1x2048 ![0, 0, 0] x slices_S32x128x2048_S32x1x2048_0_0_0) shapeCasts_S32x1x2048_S32x2048

/-- Its greatest entry. -/
abbrev peak (x : FVec Ideal S32x128x2048 .f32) : FVec Ideal S32 .f32 :=
  Host.reduce FloatOps.maximumf (first x) (constant S_ .f32 0xFF800000#32) reducesTo_S32x2048_S32_d1 h_S_

/-- An entry of a first row. -/
theorem first_apply (x : FVec Ideal S32x128x2048 .f32) (b : Fin 32) (v : Fin 2048) : first x (ix2 b v) = x (ix3 b 0 v) := by
  pointwise [first]

/-- The greatest entry of each row of a matrix. -/
theorem max_apply (y : FVec Ideal S32x2048 .f32) (h : S32x2048.ReducesTo [1] S32) (hu : 0 < S_.numel) (b : Fin 32) :
    Host.reduce FloatOps.maximumf y (constant S_ .f32 0xFF800000#32) h hu (ix1 b) = rowMax fun v => y (ix2 b v) := by
  rw [hostReduce_maximumf_eq_multiReduction (axes := [1]) y 0xFF800000#32 h hu ⟨h.1, by decide, h.2⟩ (by decide) rfl]
  unfold rowMax
  pointwise [ofBits_negInf]

/-- The greatest entry of each first row. -/
theorem peak_apply (x : FVec Ideal S32x128x2048 .f32) (b : Fin 32) : peak x (ix1 b) = rowMax (rowOf x b 0) := by
  refine (max_apply (first x) _ _ b).trans (congrArg rowMax (funext fun v => ?_))
  exact first_apply x b v

/-- The word of an equality with zero. -/
theorem zero_word (x : FVec Ideal S32x128x2048 .f32) (i : S32x128x2048.Idx)
    (h : cmpf .oeq x (broadcastInDim S32x128x2048 ![] bcast_S_S32x128x2048 (constant S_ .f32 0x00000000#32)) i = 1#1) : x i = (0 : EReal) := by
  have hz : Ideal.ofBits .f32 0x00000000#32 = 0 := by pointwise []
  have e : BitVec.ofBool (decide ((x i : EReal) = Ideal.ofBits .f32 0x00000000#32)) = 1#1 := h
  rw [hz] at e
  by_contra hn
  simp [hn] at e

/-- The word of a magnitude below infinity. -/
theorem finite_word (y : FVec Ideal S32 .f32) (i : S32.Idx)
    (h : cmpf .olt (Host.absf y) (broadcastInDim S32 ![] bcast_S_S32 (constant S_ .f32 0x7F800000#32)) i = 1#1) : y i ≠ (⊥ : EReal) ∧ y i ≠ (⊤ : EReal) := by
  have e : BitVec.ofBool (decide (max (y i : EReal) (-(y i : EReal)) < Ideal.ofBits .f32 0x7F800000#32)) = 1#1 := h
  rw [ofBits_posInf] at e
  constructor <;> intro hn <;> simp [hn] at e

/-- What the precondition says of the two arguments. -/
theorem read (x0 x1 : FVec Ideal S32x128x2048 .f32) (h : fn (F := Ideal) x0 x1 = fun _ => 1#1) : (∀ i, x1 i = (0 : EReal)) ∧ HeadFinite x0 := by
  haveI : Subsingleton S_.Idx := ⟨fun p q => funext fun a => a.elim0⟩
  have e := IntOp.andi_eq_one.1 (congrFun h fun a => a.elim0)
  refine ⟨fun i => zero_word x1 i (Host.reduce_andi_all _ _ _ _ _ e.1 i), fun b => ?_⟩
  have f := finite_word (peak x0) (ix1 b) (Host.reduce_andi_all _ _ _ _ _ e.2 (ix1 b))
  rw [peak_apply] at f
  exact f

end Cert.Pre_plain_input.Reading

end
-- ==== Proof.Algebraic.lean ====
/- The value claim: on a plain input the kernel and the reference return the same four arrays. -/
module

public import proofs.«01_k».proof.Defs
public import proofs.«01_k».proof.Proof.Equation
public import proofs.«01_k».proof.Proof.Pre
public import proofs.«01_k».proof.Proof.Gen.ReferenceIdeal.Run
public import Idealize.ShloMosaic.Lib.Claim

@[expose] public section

noncomputable section

namespace Cert.Proof

open Idealize.ShloMosaic Idealize.SL.Sem Cert.ReferenceIdeal.Read Cert.KernelIdeal.KernelValue

/-- The reference's run, its results written as functions of the two arguments. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v213)
            = val_main_v213 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v214)
            = val_main_v214 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v410)
            = val_main_v410 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v419)
            = val_main_v419 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun r h c =>
      ⟨(h c).1.trans (val_main_v213_eq (F := Ideal) (StableHlo.launchContents m c)),
        (h c).2.1.trans (val_main_v214_eq (F := Ideal) (StableHlo.launchContents m c)),
        (h c).2.2.1.trans (val_main_v410_eq (F := Ideal) (StableHlo.launchContents m c)),
        (h c).2.2.2.1.trans (val_main_v419_eq (F := Ideal) (StableHlo.launchContents m c)),
        (h c).2.2.2.2⟩)
    (Cert.ReferenceIdeal.Value.run (F := Ideal) m ρ)

/-- Under the precondition both programs run and their four results are equal. -/
theorem algebraic : Cert.algebraic_KernelIdeal_ReferenceIdeal_pre_plain_input := by
  intro m g m' g' hp ha
  have hr := fun c => Cert.Pre_plain_input.Reading.read _ _ (hp c)
  refine ⟨fun c => selected1 (launched m c), fun c => prob1 (launched m c), fun c => selected2 (launched m c), fun c => prob2 (launched m c),
    run m g fun c => (hr c).2, ?_⟩
  refine (θ_run Cert.ReferenceIdeal.defs _ _).mono (fun r h c => ?_) (reference_run m' g')
  obtain ⟨h1, h2, h3, h4, h5⟩ := h c
  rw [(ha c).1, (ha c).2] at h1 h2 h3 h4
  exact ⟨h1.trans (Cert.Equation.positions _ _ (hr c).1), h2.trans (Cert.Equation.probabilities _ _ (hr c).1),
    h3.trans (Cert.Equation.row_positions _ _ (hr c).1), h4.trans (Cert.Equation.row_probabilities _ _ (hr c).1), h5⟩

end Cert.Proof

end
-- ==== Proof.lean ====
/- The certificate's proof: the claims, assembled from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_plain_input
public import proofs.«01_k».proof.Proof.Frames
public import proofs.«01_k».proof.Proof.Algebraic

@[expose] public section

noncomputable section

namespace Cert.Proof

open Idealize.ShloMosaic Idealize.SL.Sem

/-- Every claim, under the side conditions of the programs and of the precondition. -/
theorem claim : Cert.Claim :=
  ⟨Cert.Kernel.Gen.facts, Cert.KernelIdeal.Gen.facts, Cert.ReferenceIdeal.Gen.facts, Cert.Pre_plain_input.Gen.facts,
    frame_kernel, frame_kernel_ideal, fun m g _ => frame_kernel_ideal m g trivial,
    frame_reference_ideal, fun m g _ => frame_reference_ideal m g trivial, trivial, algebraic⟩

end Cert.Proof

end
